-- ==== Defs.lean ====
def Pre_Kernel [hPre_batch_nonneg : Cert.Pre_batch_nonneg.Facts] (m : (ℓ : Loc Cert.Kernel.nD Cert.Kernel.τ Cert.Kernel.sig) → Buf (Elt Bits) ℓ) : Prop :=
  ∀ c : Dev Cert.Kernel.nD,
    (Cert.Pre_batch_nonneg.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_batch_nonneg : Cert.Pre_batch_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_batch_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_batch_sorted [hPre_batch_sorted : Cert.Pre_batch_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_batch_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_batch_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_sorted [hPre_batch_sorted : Cert.Pre_batch_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_batch_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] [hPre_batch_nonneg : Cert.Pre_batch_nonneg.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_batch_nonneg : Cert.Pre_batch_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_batch_sorted [hKernelIdeal : Cert.KernelIdeal.Facts] [hPre_batch_sorted : Cert.Pre_batch_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batch_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_batch_sorted [hReferenceIdeal : Cert.ReferenceIdeal.Facts] [hPre_batch_sorted : Cert.Pre_batch_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_batch_sorted [hKernelIdeal : Cert.KernelIdeal.Facts] [hReferenceIdeal : Cert.ReferenceIdeal.Facts] [hPre_batch_sorted : Cert.Pre_batch_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batch_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_batch_nonneg : Cert.Pre_batch_nonneg.Facts) (hPre_batch_sorted : Cert.Pre_batch_sorted.Facts),
    quiescent_Kernel (hKernel := hKernel) (hPre_batch_nonneg := hPre_batch_nonneg)
    ∧ quiescent_KernelIdeal (hKernelIdeal := hKernelIdeal) (hPre_batch_nonneg := hPre_batch_nonneg)
    ∧ quiescent_KernelIdeal_pre_batch_sorted (hKernelIdeal := hKernelIdeal) (hPre_batch_sorted := hPre_batch_sorted)
    ∧ quiescent_ReferenceIdeal (hReferenceIdeal := hReferenceIdeal)
    ∧ quiescent_ReferenceIdeal_pre_batch_sorted (hReferenceIdeal := hReferenceIdeal) (hPre_batch_sorted := hPre_batch_sorted)
    ∧ preserves_Kernel_KernelIdeal
    ∧ algebraic_KernelIdeal_ReferenceIdeal_pre_batch_sorted (hKernelIdeal := hKernelIdeal) (hReferenceIdeal := hReferenceIdeal) (hPre_batch_sorted := hPre_batch_sorted)
-- ==== Pre_batch_nonneg.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S100000x512 .f32) (main_arg1 : IVec S100000 32) (main_arg2 : FVec F S512x512 .f32) (main_arg3 : FVec F S512 .f32) : IVec S100000 1 :=
  let main_c : IVec S_ 32 := constantI S_ 32 0#32
  let main_v0 : IVec S100000 32 := broadcastInDim S100000 ![] bcast_S_S100000 main_c
  let main_v1 : IVec S100000 1 := cmpi .sge main_arg1 main_v0
  main_v1
-- ==== Pre_batch_sorted.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S_ : Shape := ⟨0, ![]⟩
abbrev S99999 : Shape := ⟨1, ![99999]⟩

class Facts : Prop where
  bcast_S_S100000 : S_.BroadcastsInDim S100000 (![] : Fin 0 → Fin S100000.rank)
  slices_S100000_S99999_1 : S100000.Slices ![1] S99999
  slices_S100000_S99999_0 : S100000.Slices ![0] S99999

variable [Facts]

def fn {F : FTy → Type} [FloatOps F] (main_arg0 : FVec F S100000x512 .f32) (main_arg1 : IVec S100000 32) (main_arg2 : FVec F S512x512 .f32) (main_arg3 : FVec F S512 .f32) : IVec S100000 1 × IVec S99999 1 :=
  let main_c : IVec S_ 32 := constantI S_ 32 0#32
  let main_v0 : IVec S100000 32 := broadcastInDim S100000 ![] bcast_S_S100000 main_c
  let main_v1 : IVec S100000 1 := cmpi .sge main_arg1 main_v0
  let main_v2 : IVec S99999 32 := (extractStridedSlice S99999 ![1] · slices_S100000_S99999_1) main_arg1
  let main_v3 : IVec S99999 32 := (extractStridedSlice S99999 ![0] · slices_S100000_S99999_0) main_arg1
  let main_v4 : IVec S99999 1 := cmpi .sge main_v2 main_v3
  (main_v1, main_v4)
-- ==== Kernel.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S20x5000 : Shape := ⟨2, ![20, 5000]⟩
abbrev S20x1 : Shape := ⟨2, ![20, 1]⟩
abbrev S20 : Shape := ⟨1, ![20]⟩
abbrev S20x2 : Shape := ⟨2, ![20, 2]⟩
abbrev S20x1x5000 : Shape := ⟨3, ![20, 1, 5000]⟩
abbrev S1x512 : Shape := ⟨2, ![1, 512]⟩
abbrev S5000x512 : Shape := ⟨2, ![5000, 512]⟩
abbrev S1x1x5000 : Shape := ⟨3, ![1, 1, 5000]⟩
abbrev S512x128 : Shape := ⟨2, ![512, 128]⟩
abbrev S1x5000 : Shape := ⟨2, ![1, 5000]⟩
abbrev S1x1 : Shape := ⟨2, ![1, 1]⟩
abbrev S64x5000 : Shape := ⟨2, ![64, 5000]⟩
abbrev S64x512 : Shape := ⟨2, ![64, 512]⟩
abbrev S64 : Shape := ⟨1, ![64]⟩
abbrev S64x1 : Shape := ⟨2, ![64, 1]⟩
abbrev S512x5000 : Shape := ⟨2, ![512, 5000]⟩
abbrev S512x1 : Shape := ⟨2, ![512, 1]⟩
abbrev S5000 : Shape := ⟨1, ![5000]⟩
abbrev S5000x1 : Shape := ⟨2, ![5000, 1]⟩

abbrev nBuf : Space → Nat
  | .hbm => 15
  | .vmem => 10
  | .smem => 1
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x512, .f32⟩
  | .hbm, ⟨3, _⟩ => ⟨S512, .f32⟩
  | .hbm, ⟨4, _⟩ => ⟨S20x5000, .i32⟩
  | .hbm, ⟨5, _⟩ => ⟨S20x1, .i32⟩
  | .hbm, ⟨6, _⟩ => ⟨S20, .i32⟩
  | .hbm, ⟨7, _⟩ => ⟨S20x1, .i32⟩
  | .hbm, ⟨8, _⟩ => ⟨S20, .i32⟩
  | .hbm, ⟨9, _⟩ => ⟨S20x1, .i32⟩
  | .hbm, ⟨10, _⟩ => ⟨S20x1, .i32⟩
  | .hbm, ⟨11, _⟩ => ⟨S20x2, .i32⟩
  | .hbm, ⟨12, _⟩ => ⟨S20x1x5000, .i32⟩
  | .hbm, ⟨13, _⟩ => ⟨S1x512, .f32⟩
  | .hbm, ⟨14, _⟩ => ⟨S512x512, .f32⟩
  | .local _ .vmem, ⟨0, _⟩ => ⟨S5000x512, .f32⟩
  | .local _ .vmem, ⟨1, _⟩ => ⟨S5000x512, .f32⟩
  | .local _ .vmem, ⟨2, _⟩ => ⟨S1x1x5000, .i32⟩
  | .local _ .vmem, ⟨3, _⟩ => ⟨S1x1x5000, .i32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x512, .f32⟩
  | .local _ .smem, ⟨0, _⟩ => ⟨S20x2, .i32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![2, 20], ![false, false]⟩

def k0_off1 (i : grid0.Coords) : Fin 2 → Nat :=
  let arg1 : BitVec 32 := BitVec.ofNat 32 (i 1).val
  let v2 : Index := Scalar.indexCast arg1
  let c0_2 : Index := 0#32
  ![v2.toNat, 0]
def k0_off2 (i : grid0.Coords) : Fin 2 → Nat :=
  let arg1 : BitVec 32 := BitVec.ofNat 32 (i 1).val
  let v23 : Index := Scalar.indexCast arg1
  let c1 : Index := 1#32
  ![v23.toNat, 1]
def k0_off3 (v3 : BitVec 32) : Fin 2 → Nat :=
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c8_i32 : BitVec 32 := 8#32
  let c0_i32_4 : BitVec 32 := 0#32
  let v10 : BitVec 1 := Scalar.cmpi .sgt c8_i32 c0_i32_4
  let v11 : BitVec 32 := Scalar.extui v10
  let c0_i32_5 : BitVec 32 := 0#32
  let v12 : BitVec 1 := Scalar.cmpi .slt c8_i32 c0_i32_5
  let v13 : BitVec 32 := Scalar.extui v12
  let v14 : BitVec 32 := Scalar.subi v11 v13
  let v15 : BitVec 1 := Scalar.cmpi .ne v9 v14
  let v16 : BitVec 32 := Scalar.remsi v3 c8_i32
  let c0_i32_6 : BitVec 32 := 0#32
  let v17 : BitVec 1 := Scalar.cmpi .ne v16 c0_i32_6
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_7 : BitVec 32 := 8#32
  let v21 : BitVec 32 := Scalar.muli v20 c8_i32_7
  let c448_i32 : BitVec 32 := 448#32
  let v22 : BitVec 32 := Scalar.minsi v21 c448_i32
  let v70 : Index := Scalar.indexCast v22
  let c0_26 : Index := 0#32
  ![v70.toNat, 0]
def k0_cond2 (i : grid0.Coords) (v3 : BitVec 32) (v24 : BitVec 32) : BitVec 1 :=
  let arg0 : BitVec 32 := BitVec.ofNat 32 (i 0).val
  let c0_i32_11 : BitVec 32 := 0#32
  let v32 : BitVec 1 := Scalar.cmpi .eq arg0 c0_i32_11
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c8_i32 : BitVec 32 := 8#32
  let c0_i32_4 : BitVec 32 := 0#32
  let v10 : BitVec 1 := Scalar.cmpi .sgt c8_i32 c0_i32_4
  let v11 : BitVec 32 := Scalar.extui v10
  let c0_i32_5 : BitVec 32 := 0#32
  let v12 : BitVec 1 := Scalar.cmpi .slt c8_i32 c0_i32_5
  let v13 : BitVec 32 := Scalar.extui v12
  let v14 : BitVec 32 := Scalar.subi v11 v13
  let v15 : BitVec 1 := Scalar.cmpi .ne v9 v14
  let v16 : BitVec 32 := Scalar.remsi v3 c8_i32
  let c0_i32_6 : BitVec 32 := 0#32
  let v17 : BitVec 1 := Scalar.cmpi .ne v16 c0_i32_6
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_7 : BitVec 32 := 8#32
  let v21 : BitVec 32 := Scalar.muli v20 c8_i32_7
  let c448_i32 : BitVec 32 := 448#32
  let v22 : BitVec 32 := Scalar.minsi v21 c448_i32
  let c64_i32 : BitVec 32 := 64#32
  let v25 : BitVec 32 := Scalar.addi v22 c64_i32
  let v26 : BitVec 1 := Scalar.cmpi .slt v24 v25
  let v33 : BitVec 1 := Scalar.andi v32 v26
  let v34 : BitVec 32 := Scalar.extui v33
  let c0_i32_12 : BitVec 32 := 0#32
  let v35 : BitVec 1 := Scalar.cmpi .ne v34 c0_i32_12
  v35

def k0_off4 (v3 : BitVec 32) : Fin 2 → Nat :=
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c8_i32 : BitVec 32 := 8#32
  let c0_i32_4 : BitVec 32 := 0#32
  let v10 : BitVec 1 := Scalar.cmpi .sgt c8_i32 c0_i32_4
  let v11 : BitVec 32 := Scalar.extui v10
  let c0_i32_5 : BitVec 32 := 0#32
  let v12 : BitVec 1 := Scalar.cmpi .slt c8_i32 c0_i32_5
  let v13 : BitVec 32 := Scalar.extui v12
  let v14 : BitVec 32 := Scalar.subi v11 v13
  let v15 : BitVec 1 := Scalar.cmpi .ne v9 v14
  let v16 : BitVec 32 := Scalar.remsi v3 c8_i32
  let c0_i32_6 : BitVec 32 := 0#32
  let v17 : BitVec 1 := Scalar.cmpi .ne v16 c0_i32_6
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_7 : BitVec 32 := 8#32
  let v21 : BitVec 32 := Scalar.muli v20 c8_i32_7
  let c448_i32 : BitVec 32 := 448#32
  let v22 : BitVec 32 := Scalar.minsi v21 c448_i32
  let v77 : Index := Scalar.indexCast v22
  let c0_28 : Index := 0#32
  ![v77.toNat, 0]
def k0_off5 (v3 : BitVec 32) : Fin 2 → Nat :=
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c8_i32 : BitVec 32 := 8#32
  let c0_i32_4 : BitVec 32 := 0#32
  let v10 : BitVec 1 := Scalar.cmpi .sgt c8_i32 c0_i32_4
  let v11 : BitVec 32 := Scalar.extui v10
  let c0_i32_5 : BitVec 32 := 0#32
  let v12 : BitVec 1 := Scalar.cmpi .slt c8_i32 c0_i32_5
  let v13 : BitVec 32 := Scalar.extui v12
  let v14 : BitVec 32 := Scalar.subi v11 v13
  let v15 : BitVec 1 := Scalar.cmpi .ne v9 v14
  let v16 : BitVec 32 := Scalar.remsi v3 c8_i32
  let c0_i32_6 : BitVec 32 := 0#32
  let v17 : BitVec 1 := Scalar.cmpi .ne v16 c0_i32_6
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_7 : BitVec 32 := 8#32
  let v21 : BitVec 32 := Scalar.muli v20 c8_i32_7
  let c448_i32 : BitVec 32 := 448#32
  let v22 : BitVec 32 := Scalar.minsi v21 c448_i32
  let v64 : Index := Scalar.indexCast v22
  let c0_25 : Index := 0#32
  ![v64.toNat, 0]
def k0_cond5 (i : grid0.Coords) (v3 : BitVec 32) (v24 : BitVec 32) : BitVec 1 :=
  let arg0 : BitVec 32 := BitVec.ofNat 32 (i 0).val
  let c1_i32_18 : BitVec 32 := 1#32
  let v46 : BitVec 1 := Scalar.cmpi .eq arg0 c1_i32_18
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c8_i32 : BitVec 32 := 8#32
  let c0_i32_4 : BitVec 32 := 0#32
  let v10 : BitVec 1 := Scalar.cmpi .sgt c8_i32 c0_i32_4
  let v11 : BitVec 32 := Scalar.extui v10
  let c0_i32_5 : BitVec 32 := 0#32
  let v12 : BitVec 1 := Scalar.cmpi .slt c8_i32 c0_i32_5
  let v13 : BitVec 32 := Scalar.extui v12
  let v14 : BitVec 32 := Scalar.subi v11 v13
  let v15 : BitVec 1 := Scalar.cmpi .ne v9 v14
  let v16 : BitVec 32 := Scalar.remsi v3 c8_i32
  let c0_i32_6 : BitVec 32 := 0#32
  let v17 : BitVec 1 := Scalar.cmpi .ne v16 c0_i32_6
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let c8_i32_7 : BitVec 32 := 8#32
  let v21 : BitVec 32 := Scalar.muli v20 c8_i32_7
  let c448_i32 : BitVec 32 := 448#32
  let v22 : BitVec 32 := Scalar.minsi v21 c448_i32
  let c64_i32 : BitVec 32 := 64#32
  let v25 : BitVec 32 := Scalar.addi v22 c64_i32
  let v26 : BitVec 1 := Scalar.cmpi .slt v24 v25
  let v47 : BitVec 1 := Scalar.andi v46 v26
  let v48 : BitVec 32 := Scalar.extui v47
  let c0_i32_19 : BitVec 32 := 0#32
  let v49 : BitVec 1 := Scalar.cmpi .ne v48 c0_i32_19
  v49

def k0_chk1 (i : grid0.Coords) (v3 : BitVec 32) (v24 : BitVec 32) : Prop :=
  (∀ (k0_h2 : k0_cond2 i v3 v24 = 1#1), ∀ a, (k0_off3 v3) a + S64x512.size a ≤ S512x512.size a) ∧
  (∀ (k0_h2 : k0_cond2 i v3 v24 = 1#1), ∀ a, (k0_off4 v3) a + S64x1.size a ≤ S512x128.size a) ∧
  (∀ (k0_h5 : k0_cond5 i v3 v24 = 1#1), ∀ a, (k0_off5 v3) a + S64x512.size a ≤ S512x512.size a)
theorem k0_off3_inb : ∀ (i : grid0.Coords) (v3 : BitVec 32) (v24 : BitVec 32) (k0_hw1 : k0_chk1 i v3 v24), ∀ (k0_h2 : k0_cond2 i v3 v24 = 1#1), ∀ a, (k0_off3 v3) a + S64x512.size a ≤ S512x512.size a := fun i v3 v24 k0_hw1 k0_h2 => k0_hw1.1 k0_h2
theorem k0_off4_inb : ∀ (i : grid0.Coords) (v3 : BitVec 32) (v24 : BitVec 32) (k0_hw1 : k0_chk1 i v3 v24), ∀ (k0_h2 : k0_cond2 i v3 v24 = 1#1), ∀ a, (k0_off4 v3) a + S64x1.size a ≤ S512x128.size a := fun i v3 v24 k0_hw1 k0_h2 => k0_hw1.2.1 k0_h2
theorem k0_off5_inb : ∀ (i : grid0.Coords) (v3 : BitVec 32) (v24 : BitVec 32) (k0_hw1 : k0_chk1 i v3 v24), ∀ (k0_h5 : k0_cond5 i v3 v24 = 1#1), ∀ a, (k0_off5 v3) a + S64x512.size a ≤ S512x512.size a := fun i v3 v24 k0_hw1 k0_h5 => k0_hw1.2.2 k0_h5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S20x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S5000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x5000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S_ : Shape := ⟨0, ![]⟩
abbrev S100000x1 : Shape := ⟨2, ![100000, 1]⟩
abbrev S512x1 : Shape := ⟨2, ![512, 1]⟩
abbrev S1x512 : Shape := ⟨2, ![1, 512]⟩

abbrev nBuf : Space → Nat
  | .hbm => 53
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x512, .f32⟩
  | .hbm, ⟨3, _⟩ => ⟨S512, .f32⟩
  | .hbm, ⟨4, _⟩ => ⟨S_, .f32⟩
  | .hbm, ⟨5, _⟩ => ⟨S100000, .f32⟩
  | .hbm, ⟨6, _⟩ => ⟨S_, .f32⟩
  | .hbm, ⟨7, _⟩ => ⟨S512, .f32⟩
  | .hbm, ⟨8, _⟩ => ⟨S100000x1, .i32⟩
  | .hbm, ⟨9, _⟩ => ⟨S512, .f32⟩
  | .hbm, ⟨10, _⟩ => ⟨S_, .f32⟩
  | .hbm, ⟨11, _⟩ => ⟨S512x512, .f32⟩
  | .hbm, ⟨12, _⟩ => ⟨S100000x1, .i32⟩
  | .hbm, ⟨13, _⟩ => ⟨S512x512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512x1, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S1x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S100000x512, .f32⟩
  | .hbm, ⟨35, _⟩ => ⟨S100000x512, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x512, .f32⟩
  | .hbm, ⟨48, _⟩ => ⟨S100000x512, .f32⟩
  | .hbm, ⟨49, _⟩ => ⟨S_, .f32⟩
  | .hbm, ⟨50, _⟩ => ⟨S512x512, .f32⟩
  | .hbm, ⟨51, _⟩ => ⟨S100000x1, .i32⟩
  | .hbm, ⟨52, _⟩ => ⟨S512x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.StepDefs.lean ====
module
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

/-! What one grid point of the kernel does, written as plain functions of the contents it finds: which words of the
    table it reads, whether its 64-row window fits, and what the two accumulators, the context and the output then hold. -/

@[expose] public section

set_option maxRecDepth 16384

noncomputable section

namespace Cert.KernelIdeal.Seg

open Cert.KernelIdeal.Gen
open Idealize.ShloMosaic Idealize.ShloMosaic.TcCoe

variable {F : FTy → Type} [FloatOps F]

/-- The first multi-index of a one-by-one window. -/
abbrev one11 : (⟨2, S1x1.size⟩ : Shape).Idx := Shape.Idx.first (numel1_S1x1.symm ▸ Nat.one_pos)

/-- The first batch id of the point's block: the word at row `i`, column 0 of the table. -/
def lo (i : grid0.Coords) (x0 : Vec F S20x2 .i32) : BitVec 32 :=
  VecWindow.window (s := S20x2) x0 (k0_off1 i) S1x1.size (k0_off1_inb i) one11

/-- The last batch id of the point's block: the word at row `i`, column 1 of the table. -/
def hi (i : grid0.Coords) (x0 : Vec F S20x2 .i32) : BitVec 32 :=
  VecWindow.window (s := S20x2) x0 (k0_off2 i) S1x1.size (k0_off2_inb i) one11

/-- The window's first row: the first id rounded down to a multiple of eight, at most 448. -/
def base (a : BitVec 32) : BitVec 32 :=
  let q : BitVec 32 := Scalar.divsi a 8#32
  let sa : BitVec 32 := Scalar.subi (Scalar.extui (Scalar.cmpi .sgt a 0#32)) (Scalar.extui (Scalar.cmpi .slt a 0#32))
  let se : BitVec 32 := Scalar.subi (Scalar.extui (Scalar.cmpi .sgt 8#32 0#32)) (Scalar.extui (Scalar.cmpi .slt 8#32 0#32))
  let adj : BitVec 1 := Scalar.andi (Scalar.cmpi .ne sa se) (Scalar.cmpi .ne (Scalar.remsi a 8#32) 0#32)
  Scalar.minsi (Scalar.muli (Scalar.select adj (Scalar.subi q 1#32) q) 8#32) 448#32

/-- Whether the block's last id lies in the 64 rows from the window's first. -/
def fits (a b : BitVec 32) : BitVec 1 := Scalar.cmpi .slt b (Scalar.addi (base a) 64#32)

/-- The offsets of the window. -/
abbrev off (a : BitVec 32) : Fin 2 → ℕ := ![(base a).toNat, 0]

theorem off3_eq (a : BitVec 32) : k0_off3 a = off a := rfl
theorem off4_eq (a : BitVec 32) : k0_off4 a = off a := rfl
theorem off5_eq (a : BitVec 32) : k0_off5 a = off a := rfl

/-- The window lies inside the 512 rows. -/
def Low (a : BitVec 32) : Prop := (base a).toNat ≤ 448

instance (a : BitVec 32) : Decidable (Low a) := inferInstanceAs (Decidable ((base a).toNat ≤ 448))

theorem inb64 {a : BitVec 32} (h : Low a) : ∀ d, off a d + S64x512.size d ≤ S512x512.size d := fun d => by
  have h' : (base a).toNat ≤ 448 := h
  fin_cases d
  · show (base a).toNat + 64 ≤ 512; omega
  · show 0 + 512 ≤ 512; omega

theorem inb64c {a : BitVec 32} (h : Low a) : ∀ d, off a d + S64x1.size d ≤ S512x128.size d := fun d => by
  have h' : (base a).toNat ≤ 448 := h
  fin_cases d
  · show (base a).toNat + 64 ≤ 512; omega
  · show 0 + 1 ≤ 128; omega

theorem chk {a : BitVec 32} (h : Low a) (i : grid0.Coords) (b : BitVec 32) : k0_chk1 i a b :=
  ⟨fun _ => inb64 h, fun _ => inb64c h, fun _ => inb64 h⟩

/-! The six conditions of the body, as it writes them. -/

abbrev Z0 (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1
abbrev Z1 (i : grid0.Coords) : Prop :=
  Scalar.cmpi .ne (Scalar.extui (Scalar.andi (Scalar.cmpi .eq (BitVec.ofNat 32 (i 0).val) 1#32) (Scalar.cmpi .eq (BitVec.ofNat 32 (i 1).val) 0#32)) : BitVec 32) 0#32 = 1#1
abbrev Out0 (i : grid0.Coords) (f : BitVec 1) : Prop :=
  Scalar.cmpi .ne (Scalar.extui (Scalar.andi (Scalar.cmpi .eq (BitVec.ofNat 32 (i 0).val) 0#32) (Scalar.xori f 1#1)) : BitVec 32) 0#32 = 1#1
abbrev Out1 (i : grid0.Coords) (f : BitVec 1) : Prop :=
  Scalar.cmpi .ne (Scalar.extui (Scalar.andi (Scalar.cmpi .eq (BitVec.ofNat 32 (i 0).val) 1#32) (Scalar.xori f 1#1)) : BitVec 32) 0#32 = 1#1
abbrev In0 (i : grid0.Coords) (f : BitVec 1) : Prop :=
  Scalar.cmpi .ne (Scalar.extui (Scalar.andi (Scalar.cmpi .eq (BitVec.ofNat 32 (i 0).val) 0#32) f) : BitVec 32) 0#32 = 1#1
abbrev In1 (i : grid0.Coords) (f : BitVec 1) : Prop :=
  Scalar.cmpi .ne (Scalar.extui (Scalar.andi (Scalar.cmpi .eq (BitVec.ofNat 32 (i 0).val) 1#32) f) : BitVec 32) 0#32 = 1#1

theorem cond2_eq (i : grid0.Coords) (a b : BitVec 32) : (k0_cond2 i a b = 1#1) = In0 i (fits a b) := rfl
theorem cond5_eq (i : grid0.Coords) (a b : BitVec 32) : (k0_cond5 i a b = 1#1) = In1 i (fits a b) := rfl

theorem bit_cases (f : BitVec 1) : f = 0#1 ∨ f = 1#1 := by
  revert f; decide

theorem phase_cases (i : grid0.Coords) : (i 0).val = 0 ∨ (i 0).val = 1 := by
  have : (i 0).val < 2 := (i 0).isLt
  omega

theorem eq_word (n : ℕ) (hn : n < 20) : Scalar.cmpi .eq (BitVec.ofNat 32 n) 0#32 = if n = 0 then 1#1 else 0#1 := by
  exact (by decide : ∀ n : Fin 20, Scalar.cmpi .eq (BitVec.ofNat 32 n.val) 0#32 = if n.val = 0 then 1#1 else 0#1) ⟨n, hn⟩

theorem Z0_iff (i : grid0.Coords) : Z0 i ↔ (i 0).val = 0 ∧ (i 1).val = 0 := by
  unfold Z0; rw [eq_word (i 1).val (i 1).isLt]
  rcases phase_cases i with h | h <;> rw [h] <;> split <;> simp_all <;> decide

theorem Z1_iff (i : grid0.Coords) : Z1 i ↔ (i 0).val = 1 ∧ (i 1).val = 0 := by
  unfold Z1; rw [eq_word (i 1).val (i 1).isLt]
  rcases phase_cases i with h | h <;> rw [h] <;> split <;> simp_all <;> decide

theorem Out0_iff (i : grid0.Coords) (f : BitVec 1) : Out0 i f ↔ (i 0).val = 0 ∧ f ≠ 1#1 := by
  unfold Out0; rcases phase_cases i with h | h <;> rcases bit_cases f with rfl | rfl <;> rw [h] <;> decide
theorem Out1_iff (i : grid0.Coords) (f : BitVec 1) : Out1 i f ↔ (i 0).val = 1 ∧ f ≠ 1#1 := by
  unfold Out1; rcases phase_cases i with h | h <;> rcases bit_cases f with rfl | rfl <;> rw [h] <;> decide
theorem In0_iff (i : grid0.Coords) (f : BitVec 1) : In0 i f ↔ (i 0).val = 0 ∧ f = 1#1 := by
  unfold In0; rcases phase_cases i with h | h <;> rcases bit_cases f with rfl | rfl <;> rw [h] <;> decide
theorem In1_iff (i : grid0.Coords) (f : BitVec 1) : In1 i f ↔ (i 0).val = 1 ∧ f = 1#1 := by
  unfold In1; rcases phase_cases i with h | h <;> rcases bit_cases f with rfl | rfl <;> rw [h] <;> decide

/-! What the point leaves. -/

/-- The segment sums after one block: through the window when the block fits, else over all rows. -/
def addSum (f : BitVec 1) (a : BitVec 32) (v : IVec S1x5000 32) (x : Vec F S5000x512 .f32) (S : Vec F S512x512 .f32) : Vec F S512x512 .f32 :=
  if f = 1#1 then
    if h : Low a then VecWindow.put (s := S512x512) S (off a) S64x512.size (k0_pay2 v (base a) x (VecWindow.window (s := S512x512) S (off a) S64x512.size (inb64 h))) else S
  else k0_pay5 v x S

/-- The counts after one block (they occupy the first column). -/
def addCnt (f : BitVec 1) (a : BitVec 32) (v : IVec S1x5000 32) (C : Vec F S512x128 .f32) : Vec F S512x128 .f32 :=
  if f = 1#1 then
    if h : Low a then VecWindow.put (s := S512x128) C (off a) S64x1.size (k0_pay3 v (base a) (VecWindow.window (s := S512x128) C (off a) S64x1.size (inb64c h))) else C
  else VecWindow.put (s := S512x128) C ![0, 0] S512x1.size (k0_pay6 v (VecWindow.window (s := S512x128) C ![0, 0] S512x1.size inb_S512x128_S512x1_0_0))

/-- The output after one block. -/
def addOut (f : BitVec 1) (a : BitVec 32) (v : IVec S1x5000 32) (x : Vec F S5000x512 .f32) (X o : Vec F S512x512 .f32) : Vec F S512x512 .f32 :=
  if f = 1#1 then
    if h : Low a then VecWindow.put (s := S512x512) o (off a) S64x512.size
      (k0_pay9 v (base a) x (VecWindow.window (s := S512x512) X (off a) S64x512.size (inb64 h)) (VecWindow.window (s := S512x512) o (off a) S64x512.size (inb64 h))) else o
  else k0_pay10 v x X o

/-- The context of every segment, from the counts, the sums, the weights and the bias. -/
def ctxOf (C : Vec F S512x128 .f32) (S : Vec F S512x512 .f32) (W : Vec F S512x512 .f32) (b : Vec F S1x512 .f32) : Vec F S512x512 .f32 :=
  k0_pay7 (VecWindow.window (s := S512x128) C ![0, 0] S512x1.size inb_S512x128_S512x1_0_0) S W b

/-- The sums after the point. -/
def stepS (i : grid0.Coords) (x0 : Vec F S20x2 .i32) (x1 : Vec F S5000x512 .f32) (x2 : Vec F S1x1x5000 .i32) (S : Vec F S512x512 .f32) : Vec F S512x512 .f32 :=
  if (i 0).val = 0 then
    addSum (fits (lo i x0) (hi i x0)) (lo i x0) (k0_pay11 x2) x1 (if (i 1).val = 0 then k0_pay12 (F := F) else S)
  else S

/-- The counts after the point. -/
def stepC (i : grid0.Coords) (x0 : Vec F S20x2 .i32) (x2 : Vec F S1x1x5000 .i32) (C : Vec F S512x128 .f32) : Vec F S512x128 .f32 :=
  if (i 0).val = 0 then
    addCnt (fits (lo i x0) (hi i x0)) (lo i x0) (k0_pay11 x2) (if (i 1).val = 0 then k0_pay13 (F := F) else C)
  else C

/-- The context after the point. -/
def stepX (i : grid0.Coords) (x3 : Vec F S512x512 .f32) (x4 : Vec F S1x512 .f32) (S : Vec F S512x512 .f32) (C : Vec F S512x128 .f32) (X : Vec F S512x512 .f32) : Vec F S512x512 .f32 :=
  if (i 0).val = 0 then X else if (i 1).val = 0 then ctxOf C S x3 x4 else X

/-- The output block after the point. -/
def stepO (i : grid0.Coords) (x0 : Vec F S20x2 .i32) (x1 : Vec F S5000x512 .f32) (x2 : Vec F S1x1x5000 .i32) (x3 : Vec F S512x512 .f32) (x4 : Vec F S1x512 .f32)
    (S : Vec F S512x512 .f32) (C : Vec F S512x128 .f32) (X o : Vec F S512x512 .f32) : Vec F S512x512 .f32 :=
  if (i 0).val = 0 then o else
    addOut (fits (lo i x0) (hi i x0)) (lo i x0) (k0_pay11 x2) x1 (stepX i x3 x4 S C X) (if (i 1).val = 0 then k0_pay8 (F := F) else o)

end Cert.KernelIdeal.Seg

end
-- ==== Proof.Stores.lean ====
module
public import proofs.«01_k».proof.Proof.StepDefs

/-! One grid point of the kernel run from known contents: every buffer ends with what the step functions say. -/

@[expose] public section
set_option maxRecDepth 16384
noncomputable section
namespace Cert.KernelIdeal.Seg
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section Stores

variable {sig' : RefSig} {κ : Kind} {sp : Space}

/-- The sums' buffer after the windowed store. -/
theorem sum_in (v : View sig' κ sp S512x512 .f32) (f : v.ty.Contents (Elt F)) (L : List (View.Piece (Elt F) S512x512 .f32)) {S : Vec F S512x512 .f32}
    {a b : BitVec 32} {V V' : IVec S1x5000 32} {X X' : Vec F S5000x512 .f32} {W : Vec F S64x512 .f32} (hl : Low a) (hf : fits a b = 1#1)
    (inb : ∀ d, off a d + S64x512.size d ≤ S512x512.size d)
    (hS : v.read (Elt F) (v.writes (Elt F) f L) = S) (hV : V = V') (hX : X = X')
    (hW : W = VecWindow.window (s := S512x512) (v.read (Elt F) (v.writes (Elt F) f L)) (off a) S64x512.size (inb64 hl)) :
    v.read (Elt F) (v.writes (Elt F) f (⟨Rect.unit (off a) S64x512.size inb, k0_pay2 V (base a) X W⟩ :: L)) = addSum (fits a b) a V' X' S := by
  subst hS hV hX hW
  rw [addSum, if_pos hf, dif_pos hl]
  exact View.read_writes_cons_put v f inb _ L rfl

/-- The sums' buffer after the store of all rows. -/
theorem sum_out (v : View sig' κ sp S512x512 .f32) (f : v.ty.Contents (Elt F)) (L : List (View.Piece (Elt F) S512x512 .f32)) {S S' : Vec F S512x512 .f32}
    {a b : BitVec 32} {V V' : IVec S1x5000 32} {X X' : Vec F S5000x512 .f32} (hf : ¬ fits a b = 1#1)
    (inb : ∀ d, (![0, 0] : Fin 2 → ℕ) d + S512x512.size d ≤ S512x512.size d) (hS : S' = S) (hV : V = V') (hX : X = X') :
    v.read (Elt F) (v.writes (Elt F) f (⟨Rect.unit ![0, 0] S512x512.size inb, k0_pay5 V X S'⟩ :: L)) = addSum (fits a b) a V' X' S := by
  subst hS hV hX
  rw [addSum, if_neg hf]
  exact View.read_writes_full v f inb _ L

/-- The counts' buffer after the windowed store. -/
theorem cnt_in (v : View sig' κ sp S512x128 .f32) (f : v.ty.Contents (Elt F)) (L : List (View.Piece (Elt F) S512x128 .f32)) {C : Vec F S512x128 .f32}
    {a b : BitVec 32} {V V' : IVec S1x5000 32} {W : Vec F S64x1 .f32} (hl : Low a) (hf : fits a b = 1#1)
    (inb : ∀ d, off a d + S64x1.size d ≤ S512x128.size d)
    (hC : v.read (Elt F) (v.writes (Elt F) f L) = C) (hV : V = V')
    (hW : W = VecWindow.window (s := S512x128) (v.read (Elt F) (v.writes (Elt F) f L)) (off a) S64x1.size (inb64c hl)) :
    v.read (Elt F) (v.writes (Elt F) f (⟨Rect.unit (off a) S64x1.size inb, k0_pay3 V (base a) W⟩ :: L)) = addCnt (fits a b) a V' C := by
  subst hC hV hW
  rw [addCnt, if_pos hf, dif_pos hl]
  exact View.read_writes_cons_put v f inb _ L rfl

/-- The counts' buffer after the store of the whole column. -/
theorem cnt_out (v : View sig' κ sp S512x128 .f32) (f : v.ty.Contents (Elt F)) (L : List (View.Piece (Elt F) S512x128 .f32)) {C : Vec F S512x128 .f32}
    {a b : BitVec 32} {V V' : IVec S1x5000 32} {W : Vec F S512x1 .f32} (hf : ¬ fits a b = 1#1)
    (inb : ∀ d, (![0, 0] : Fin 2 → ℕ) d + S512x1.size d ≤ S512x128.size d)
    (hC : v.read (Elt F) (v.writes (Elt F) f L) = C) (hV : V = V')
    (hW : W = VecWindow.window (s := S512x128) C ![0, 0] S512x1.size inb_S512x128_S512x1_0_0) :
    v.read (Elt F) (v.writes (Elt F) f (⟨Rect.unit ![0, 0] S512x1.size inb, k0_pay6 V W⟩ :: L)) = addCnt (fits a b) a V' C := by
  subst hC hV hW
  rw [addCnt, if_neg hf]
  exact View.read_writes_cons_put v f inb _ L rfl

/-- The output's buffer after the windowed store. -/
theorem out_in (v : View sig' κ sp S512x512 .f32) (f : v.ty.Contents (Elt F)) (L : List (View.Piece (Elt F) S512x512 .f32)) {o X : Vec F S512x512 .f32}
    {a b : BitVec 32} {V V' : IVec S1x5000 32} {x x' : Vec F S5000x512 .f32} {U W : Vec F S64x512 .f32} (hl : Low a) (hf : fits a b = 1#1)
    (inb : ∀ d, off a d + S64x512.size d ≤ S512x512.size d)
    (ho : v.read (Elt F) (v.writes (Elt F) f L) = o) (hV : V = V') (hx : x = x')
    (hU : U = VecWindow.window (s := S512x512) X (off a) S64x512.size (inb64 hl))
    (hW : W = VecWindow.window (s := S512x512) (v.read (Elt F) (v.writes (Elt F) f L)) (off a) S64x512.size (inb64 hl)) :
    v.read (Elt F) (v.writes (Elt F) f (⟨Rect.unit (off a) S64x512.size inb, k0_pay9 V (base a) x U W⟩ :: L)) = addOut (fits a b) a V' x' X o := by
  subst ho hV hx hU hW
  rw [addOut, if_pos hf, dif_pos hl]
  exact View.read_writes_cons_put v f inb _ L rfl

/-- The output's buffer after the store of all rows. -/
theorem out_out (v : View sig' κ sp S512x512 .f32) (f : v.ty.Contents (Elt F)) (L : List (View.Piece (Elt F) S512x512 .f32)) {o o' X X' : Vec F S512x512 .f32}
    {a b : BitVec 32} {V V' : IVec S1x5000 32} {x x' : Vec F S5000x512 .f32} (hf : ¬ fits a b = 1#1)
    (inb : ∀ d, (![0, 0] : Fin 2 → ℕ) d + S512x512.size d ≤ S512x512.size d) (ho : o' = o) (hV : V = V') (hx : x = x') (hX : X' = X) :
    v.read (Elt F) (v.writes (Elt F) f (⟨Rect.unit ![0, 0] S512x512.size inb, k0_pay10 V x X' o'⟩ :: L)) = addOut (fits a b) a V' x' X o := by
  subst ho hV hx hX
  rw [addOut, if_neg hf]
  exact View.read_writes_full v f inb _ L

/-- The context's buffer after its store. -/
theorem ctx_new (v : View sig' κ sp S512x512 .f32) (f : v.ty.Contents (Elt F)) (L : List (View.Piece (Elt F) S512x512 .f32)) {S S' : Vec F S512x512 .f32}
    {C : Vec F S512x128 .f32} {c' : Vec F S512x1 .f32} {w w' : Vec F S512x512 .f32} {b b' : Vec F S1x512 .f32}
    (inb : ∀ d, (![0, 0] : Fin 2 → ℕ) d + S512x512.size d ≤ S512x512.size d)
    (hc : c' = VecWindow.window (s := S512x128) C ![0, 0] S512x1.size inb_S512x128_S512x1_0_0) (hS : S' = S) (hw : w' = w) (hb : b' = b) :
    v.read (Elt F) (v.writes (Elt F) f (⟨Rect.unit ![0, 0] S512x512.size inb, k0_pay7 c' S' w' b'⟩ :: L)) = ctxOf C S w b := by
  subst hc hS hw hb
  exact View.read_writes_full v f inb _ L

/-- A block of rows loaded whole. -/
theorem rows_full (v : View sig' κ sp S5000x512 .f32) (f : v.ty.Contents (Elt F)) (inb : ∀ d, (![0, 0] : Fin 2 → ℕ) d + S5000x512.size d ≤ S5000x512.size d) :
    (v.readAt (Elt F) (Rect.unit ![0, 0] S5000x512.size inb).toLoadRect f : Vec F S5000x512 .f32) = v.read (Elt F) f :=
  View.readAt_full v f inb

/-- A square block loaded whole. -/
theorem sq_full (v : View sig' κ sp S512x512 .f32) (f : v.ty.Contents (Elt F)) (inb : ∀ d, (![0, 0] : Fin 2 → ℕ) d + S512x512.size d ≤ S512x512.size d) :
    (v.readAt (Elt F) (Rect.unit ![0, 0] S512x512.size inb).toLoadRect f : Vec F S512x512 .f32) = v.read (Elt F) f :=
  View.readAt_full v f inb

/-- The bias loaded whole. -/
theorem bias_full (v : View sig' κ sp S1x512 .f32) (f : v.ty.Contents (Elt F)) (inb : ∀ d, (![0, 0] : Fin 2 → ℕ) d + S1x512.size d ≤ S1x512.size d) :
    (v.readAt (Elt F) (Rect.unit ![0, 0] S1x512.size inb).toLoadRect f : Vec F S1x512 .f32) = v.read (Elt F) f :=
  View.readAt_full v f inb

/-- The batch ids loaded whole. -/
theorem ids_full (v : View sig' κ sp S1x1x5000 .i32) (f : v.ty.Contents (Elt F)) (inb : ∀ d, (![0, 0, 0] : Fin 3 → ℕ) d + S1x1x5000.size d ≤ S1x1x5000.size d) :
    k0_pay11 (F := F) (v.readAt (Elt F) (Rect.unit ![0, 0, 0] S1x1x5000.size inb).toLoadRect f) = k0_pay11 (v.read (Elt F) f) :=
  congrArg (fun z => k0_pay11 (F := F) z) (View.readAt_full v f inb)

/-- The stored context's value. -/
theorem ctx_val {S S' : Vec F S512x512 .f32} {C : Vec F S512x128 .f32} {c' : Vec F S512x1 .f32} {w w' : Vec F S512x512 .f32} {b b' : Vec F S1x512 .f32}
    (hc : c' = VecWindow.window (s := S512x128) C ![0, 0] S512x1.size inb_S512x128_S512x1_0_0) (hS : S' = S) (hw : w' = w) (hb : b' = b) :
    k0_pay7 c' S' w' b' = ctxOf C S w b := by
  subst hc hS hw hb; rfl

end Stores

/-- A buffer held is owned at what its contents read as. -/
theorem own_read (c : Dev nD) {sp : Space} {s : Shape} {e : EltTy} (M : Memref sig .tc sp s e) (g : Buf (Elt F) (M.view.loc (c : Thread nD τ))) :
    ((M.view.loc (c : Thread nD τ) ↦[M.view.set]{fullShare} g) : sProp 𝕄) ⊢ owns (c : Thread nD τ) M fullShare (M.view.read (Elt F) g) := by
  unfold owns
  iintro H
  iexists g; isplitr
  · ipureintro; rfl
  iexact H

/-- A buffer held is owned at anything its contents are shown to read as. -/
theorem own_eq (c : Dev nD) {sp : Space} {s : Shape} {e : EltTy} (M : Memref sig .tc sp s e) (g : Buf (Elt F) (M.view.loc (c : Thread nD τ))) {X : Vec F s e}
    (h : M.view.read (Elt F) g = X) :
    ((M.view.loc (c : Thread nD τ) ↦[M.view.set]{fullShare} g) : sProp 𝕄) ⊢ owns (c : Thread nD τ) M fullShare X := h ▸ own_read c M g

/-! The step functions in each of the cases. -/

section Cases

variable {i : grid0.Coords} {x0 : Vec F S20x2 .i32} {x1 : Vec F S5000x512 .f32} {x2 : Vec F S1x1x5000 .i32} {x3 : Vec F S512x512 .f32} {x4 : Vec F S1x512 .f32}
  {S X o : Vec F S512x512 .f32} {C : Vec F S512x128 .f32}

theorem stepS_first (hp : (i 0).val = 0) (hi0 : (i 1).val = 0) :
    addSum (fits (lo i x0) (hi i x0)) (lo i x0) (k0_pay11 x2) x1 (k0_pay12 (F := F)) = stepS i x0 x1 x2 S := by
  rw [stepS, if_pos hp, if_pos hi0]
theorem stepS_next (hp : (i 0).val = 0) (hi0 : ¬ (i 1).val = 0) :
    addSum (fits (lo i x0) (hi i x0)) (lo i x0) (k0_pay11 x2) x1 S = stepS i x0 x1 x2 S := by
  rw [stepS, if_pos hp, if_neg hi0]
theorem stepS_keep (hp : (i 0).val = 1) : S = stepS i x0 x1 x2 S := by
  rw [stepS, if_neg (by omega)]
theorem stepC_first (hp : (i 0).val = 0) (hi0 : (i 1).val = 0) :
    addCnt (fits (lo i x0) (hi i x0)) (lo i x0) (k0_pay11 x2) (k0_pay13 (F := F)) = stepC i x0 x2 C := by
  rw [stepC, if_pos hp, if_pos hi0]
theorem stepC_next (hp : (i 0).val = 0) (hi0 : ¬ (i 1).val = 0) :
    addCnt (fits (lo i x0) (hi i x0)) (lo i x0) (k0_pay11 x2) C = stepC i x0 x2 C := by
  rw [stepC, if_pos hp, if_neg hi0]
theorem stepC_keep (hp : (i 0).val = 1) : C = stepC i x0 x2 C := by
  rw [stepC, if_neg (by omega)]
theorem stepX_keep0 (hp : (i 0).val = 0) : X = stepX i x3 x4 S C X := by
  rw [stepX, if_pos hp]
theorem stepX_first (hp : (i 0).val = 1) (hi0 : (i 1).val = 0) : ctxOf C S x3 x4 = stepX i x3 x4 S C X := by
  rw [stepX, if_neg (by omega), if_pos hi0]
theorem stepX_keep1 (hp : (i 0).val = 1) (hi0 : ¬ (i 1).val = 0) : X = stepX i x3 x4 S C X := by
  rw [stepX, if_neg (by omega), if_neg hi0]
theorem stepO_keep (hp : (i 0).val = 0) : o = stepO i x0 x1 x2 x3 x4 S C X o := by
  rw [stepO, if_pos hp]
theorem stepO_first (hp : (i 0).val = 1) (hi0 : (i 1).val = 0) :
    addOut (fits (lo i x0) (hi i x0)) (lo i x0) (k0_pay11 x2) x1 (ctxOf C S x3 x4) (k0_pay8 (F := F)) = stepO i x0 x1 x2 x3 x4 S C X o := by
  rw [stepO, if_neg (by omega), if_pos hi0, ← stepX_first hp hi0]
theorem stepO_next (hp : (i 0).val = 1) (hi0 : ¬ (i 1).val = 0) :
    addOut (fits (lo i x0) (hi i x0)) (lo i x0) (k0_pay11 x2) x1 X o = stepO i x0 x1 x2 x3 x4 S C X o := by
  rw [stepO, if_neg (by omega), if_neg hi0, ← stepX_keep1 hp hi0]

end Cases

end Cert.KernelIdeal.Seg

end
-- ==== Proof.RunFirst.lean ====
module
public import proofs.«01_k».proof.Proof.Stores

/-! One grid point of the kernel run from known contents: every buffer ends with what the step functions say. -/

@[expose] public section
set_option maxRecDepth 16384
noncomputable section
namespace Cert.KernelIdeal.Seg
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

attribute [local irreducible] Scalar.cmpi Scalar.andi Scalar.extui Scalar.xori Scalar.addi Scalar.minsi Scalar.muli Scalar.select Scalar.subi Scalar.divsi Scalar.remsi

set_option maxHeartbeats 1000000 in
/-- One grid point, from known contents of every buffer it holds. -/
theorem run_first (c : Dev nD) (i : grid0.Coords) (arg2 : Memref sig .tc .smem S20x2 .i32) (harg2 : arg2.IsWhole) (arg3 : Memref sig .tc .vmem S5000x512 .f32) (harg3 : arg3.IsWhole) (arg4 : Memref sig .tc .vmem S1x1x5000 .i32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x128 .f32) (harg9 : arg9.IsWhole) (arg10 : Memref sig .tc .vmem S512x512 .f32) (harg10 : arg10.IsWhole)
    (x0 : Vec F S20x2 .i32) (x1 : Vec F S5000x512 .f32) (x2 : Vec F S1x1x5000 .i32) (x3 : Vec F S512x512 .f32) (x4 : Vec F S1x512 .f32) (xi5 : Vec F S512x512 .f32) (xs0 : Vec F S512x512 .f32) (xs1 : Vec F S512x128 .f32) (xs2 : Vec F S512x512 .f32)
     (hp : (i 0).val = 0) (hi0 : (i 1).val = 0) (hlow : Low (lo i x0)) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (stepO i x0 x1 x2 x3 x4 xs0 xs1 xs2 xi5) ∗ owns (c : Thread nD τ) arg8 fullShare (stepS i x0 x1 x2 xs0)
                ∗ owns (c : Thread nD τ) arg9 fullShare (stepC i x0 x2 xs1) ∗ owns (c : Thread nD τ) arg10 fullShare (stepX i x3 x4 xs0 xs1 xs2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
  subst hf0 hf1 hf2 hf3 hf4 hf5 hfs0 hfs1 hfs2
  have hchk : k0_chk1 i (lo i (arg2.view.read (Elt F) f0)) (hi i (arg2.view.read (Elt F) f0)) := chk hlow i _
  have h1 : Z0 i := (Z0_iff i).2 ⟨hp, hi0⟩
  have h4 : ¬ Z1 i := fun h => absurd ((Z1_iff i).1 h).1 (by omega)
  have h5 : ¬ k0_cond5 i (lo i (arg2.view.read (Elt F) f0)) (hi i (arg2.view.read (Elt F) f0)) = 1#1 := fun h => absurd ((In1_iff i _).1 h).1 (by omega)
  have h6 : ¬ Out1 i (fits (lo i (arg2.view.read (Elt F) f0)) (hi i (arg2.view.read (Elt F) f0))) := fun h => absurd ((Out1_iff i _).1 h).1 (by omega)
  have h2 : if (fits (lo i (arg2.view.read (Elt F) f0)) (hi i (arg2.view.read (Elt F) f0))) = 1#1 then k0_cond2 i (lo i (arg2.view.read (Elt F) f0)) (hi i (arg2.view.read (Elt F) f0)) = 1#1 else ¬ k0_cond2 i (lo i (arg2.view.read (Elt F) f0)) (hi i (arg2.view.read (Elt F) f0)) = 1#1 := by
    rw [cond2_eq]; split <;> simp_all [In0_iff]
  have h3 : if (fits (lo i (arg2.view.read (Elt F) f0)) (hi i (arg2.view.read (Elt F) f0))) = 1#1 then ¬ Out0 i (fits (lo i (arg2.view.read (Elt F) f0)) (hi i (arg2.view.read (Elt F) f0))) else Out0 i (fits (lo i (arg2.view.read (Elt F) f0)) (hi i (arg2.view.read (Elt F) f0))) := by split <;> simp_all [Out0_iff]
  by_cases hfit : (fits (lo i (arg2.view.read (Elt F) f0)) (hi i (arg2.view.read (Elt F) f0))) = 1#1
  all_goals
    first | rw [if_pos hfit] at h2 h3 | rw [if_neg hfit] at h2 h3
    sl_exec (disch := first | sl_exact hchk | sl_exact h1 | sl_exact h2 | sl_exact h3 | sl_exact h4 | sl_exact h5 | sl_exact h6)
    sl_step
    iapply Hk
    isplitl [H0]; · exact own_read c arg2 f0
    isplitl [H1]; · exact own_read c arg3 f1
    isplitl [H2]; · exact own_read c arg4 f2
    isplitl [H3]; · exact own_read c arg5 f3
    isplitl [H4]; · exact own_read c arg6 f4
    isplitl [H5]; refine own_eq c arg7 _ ?_; rotate_left
    isplitl [HS0]; refine own_eq c arg8 _ ?_; rotate_left
    isplitl [HS1]; refine own_eq c arg9 _ ?_; rotate_left
    refine own_eq c arg10 _ ?_; rotate_left
  · exact stepO_keep (F := F) hp
  · refine Eq.trans ?_ (stepS_first (F := F) hp hi0); exact sum_in (F := F) _ _ _ hlow hfit _ (View.read_writes_full (Val := Elt F) _ _ _ _ _) (ids_full (F := F) _ _ _) (rows_full (F := F) _ _ _) rfl
  · refine Eq.trans ?_ (stepC_first (F := F) hp hi0); exact cnt_in (F := F) _ _ _ hlow hfit _ (View.read_writes_full (Val := Elt F) _ _ _ _ _) (ids_full (F := F) _ _ _) rfl
  · exact stepX_keep0 (F := F) hp
  · exact stepO_keep (F := F) hp
  · refine Eq.trans ?_ (stepS_first (F := F) hp hi0); exact sum_out (F := F) _ _ _ hfit _ (View.readCov_full (Val := Elt F) _ _ _ _ _) (ids_full (F := F) _ _ _) (rows_full (F := F) _ _ _)
  · refine Eq.trans ?_ (stepC_first (F := F) hp hi0); exact cnt_out (F := F) _ _ _ hfit _ (View.read_writes_full (Val := Elt F) _ _ _ _ _) (ids_full (F := F) _ _ _) (congrArg (fun z => VecWindow.window (s := S512x128) z ![0, 0] S512x1.size inb_S512x128_S512x1_0_0) (View.read_writes_full (Val := Elt F) _ _ _ _ _))
  · exact stepX_keep0 (F := F) hp

end Cert.KernelIdeal.Seg

end
-- ==== Proof.RunAcc.lean ====
module
public import proofs.«01_k».proof.Proof.RunFirst

/-! One grid point of the kernel run from known contents: every buffer ends with what the step functions say. -/

@[expose] public section
set_option maxRecDepth 16384
noncomputable section
namespace Cert.KernelIdeal.Seg
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

attribute [local irreducible] Scalar.cmpi Scalar.andi Scalar.extui Scalar.xori Scalar.addi Scalar.minsi Scalar.muli Scalar.select Scalar.subi Scalar.divsi Scalar.remsi

set_option maxHeartbeats 1000000 in
/-- One grid point, from known contents of every buffer it holds. -/
theorem run_acc (c : Dev nD) (i : grid0.Coords) (arg2 : Memref sig .tc .smem S20x2 .i32) (harg2 : arg2.IsWhole) (arg3 : Memref sig .tc .vmem S5000x512 .f32) (harg3 : arg3.IsWhole) (arg4 : Memref sig .tc .vmem S1x1x5000 .i32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x128 .f32) (harg9 : arg9.IsWhole) (arg10 : Memref sig .tc .vmem S512x512 .f32) (harg10 : arg10.IsWhole)
    (x0 : Vec F S20x2 .i32) (x1 : Vec F S5000x512 .f32) (x2 : Vec F S1x1x5000 .i32) (x3 : Vec F S512x512 .f32) (x4 : Vec F S1x512 .f32) (xi5 : Vec F S512x512 .f32) (xs0 : Vec F S512x512 .f32) (xs1 : Vec F S512x128 .f32) (xs2 : Vec F S512x512 .f32)
     (hp : (i 0).val = 0) (hi0 : ¬ (i 1).val = 0) (hlow : Low (lo i x0)) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (stepO i x0 x1 x2 x3 x4 xs0 xs1 xs2 xi5) ∗ owns (c : Thread nD τ) arg8 fullShare (stepS i x0 x1 x2 xs0)
                ∗ owns (c : Thread nD τ) arg9 fullShare (stepC i x0 x2 xs1) ∗ owns (c : Thread nD τ) arg10 fullShare (stepX i x3 x4 xs0 xs1 xs2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
  subst hf0 hf1 hf2 hf3 hf4 hf5 hfs0 hfs1 hfs2
  have hchk : k0_chk1 i (lo i (arg2.view.read (Elt F) f0)) (hi i (arg2.view.read (Elt F) f0)) := chk hlow i _
  have h1 : ¬ Z0 i := fun h => hi0 ((Z0_iff i).1 h).2
  have h4 : ¬ Z1 i := fun h => absurd ((Z1_iff i).1 h).1 (by omega)
  have h5 : ¬ k0_cond5 i (lo i (arg2.view.read (Elt F) f0)) (hi i (arg2.view.read (Elt F) f0)) = 1#1 := fun h => absurd ((In1_iff i _).1 h).1 (by omega)
  have h6 : ¬ Out1 i (fits (lo i (arg2.view.read (Elt F) f0)) (hi i (arg2.view.read (Elt F) f0))) := fun h => absurd ((Out1_iff i _).1 h).1 (by omega)
  have h2 : if (fits (lo i (arg2.view.read (Elt F) f0)) (hi i (arg2.view.read (Elt F) f0))) = 1#1 then k0_cond2 i (lo i (arg2.view.read (Elt F) f0)) (hi i (arg2.view.read (Elt F) f0)) = 1#1 else ¬ k0_cond2 i (lo i (arg2.view.read (Elt F) f0)) (hi i (arg2.view.read (Elt F) f0)) = 1#1 := by
    rw [cond2_eq]; split <;> simp_all [In0_iff]
  have h3 : if (fits (lo i (arg2.view.read (Elt F) f0)) (hi i (arg2.view.read (Elt F) f0))) = 1#1 then ¬ Out0 i (fits (lo i (arg2.view.read (Elt F) f0)) (hi i (arg2.view.read (Elt F) f0))) else Out0 i (fits (lo i (arg2.view.read (Elt F) f0)) (hi i (arg2.view.read (Elt F) f0))) := by split <;> simp_all [Out0_iff]
  by_cases hfit : (fits (lo i (arg2.view.read (Elt F) f0)) (hi i (arg2.view.read (Elt F) f0))) = 1#1
  all_goals
    first | rw [if_pos hfit] at h2 h3 | rw [if_neg hfit] at h2 h3
    sl_exec (disch := first | sl_exact hchk | sl_exact h1 | sl_exact h2 | sl_exact h3 | sl_exact h4 | sl_exact h5 | sl_exact h6)
    sl_step
    iapply Hk
    isplitl [H0]; · exact own_read c arg2 f0
    isplitl [H1]; · exact own_read c arg3 f1
    isplitl [H2]; · exact own_read c arg4 f2
    isplitl [H3]; · exact own_read c arg5 f3
    isplitl [H4]; · exact own_read c arg6 f4
    isplitl [H5]; refine own_eq c arg7 _ ?_; rotate_left
    isplitl [HS0]; refine own_eq c arg8 _ ?_; rotate_left
    isplitl [HS1]; refine own_eq c arg9 _ ?_; rotate_left
    refine own_eq c arg10 _ ?_; rotate_left
  · exact stepO_keep (F := F) hp
  · refine Eq.trans ?_ (stepS_next (F := F) hp hi0); exact sum_in (F := F) _ _ _ hlow hfit _ rfl (ids_full (F := F) _ _ _) (rows_full (F := F) _ _ _) rfl
  · refine Eq.trans ?_ (stepC_next (F := F) hp hi0); exact cnt_in (F := F) _ _ _ hlow hfit _ rfl (ids_full (F := F) _ _ _) rfl
  · exact stepX_keep0 (F := F) hp
  · exact stepO_keep (F := F) hp
  · refine Eq.trans ?_ (stepS_next (F := F) hp hi0); exact sum_out (F := F) _ _ _ hfit _ (sq_full (F := F) _ _ _) (ids_full (F := F) _ _ _) (rows_full (F := F) _ _ _)
  · refine Eq.trans ?_ (stepC_next (F := F) hp hi0); exact cnt_out (F := F) _ _ _ hfit _ rfl (ids_full (F := F) _ _ _) rfl
  · exact stepX_keep0 (F := F) hp

end Cert.KernelIdeal.Seg

end
-- ==== Proof.RunCtx.lean ====
module
public import proofs.«01_k».proof.Proof.RunAcc

/-! One grid point of the kernel run from known contents: every buffer ends with what the step functions say. -/

@[expose] public section
set_option maxRecDepth 16384
noncomputable section
namespace Cert.KernelIdeal.Seg
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

attribute [local irreducible] Scalar.cmpi Scalar.andi Scalar.extui Scalar.xori Scalar.addi Scalar.minsi Scalar.muli Scalar.select Scalar.subi Scalar.divsi Scalar.remsi

set_option maxHeartbeats 1000000 in
/-- One grid point, from known contents of every buffer it holds. -/
theorem run_ctx (c : Dev nD) (i : grid0.Coords) (arg2 : Memref sig .tc .smem S20x2 .i32) (harg2 : arg2.IsWhole) (arg3 : Memref sig .tc .vmem S5000x512 .f32) (harg3 : arg3.IsWhole) (arg4 : Memref sig .tc .vmem S1x1x5000 .i32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x128 .f32) (harg9 : arg9.IsWhole) (arg10 : Memref sig .tc .vmem S512x512 .f32) (harg10 : arg10.IsWhole)
    (x0 : Vec F S20x2 .i32) (x1 : Vec F S5000x512 .f32) (x2 : Vec F S1x1x5000 .i32) (x3 : Vec F S512x512 .f32) (x4 : Vec F S1x512 .f32) (xi5 : Vec F S512x512 .f32) (xs0 : Vec F S512x512 .f32) (xs1 : Vec F S512x128 .f32) (xs2 : Vec F S512x512 .f32)
     (hp : (i 0).val = 1) (hi0 : (i 1).val = 0) (hlow : Low (lo i x0)) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (stepO i x0 x1 x2 x3 x4 xs0 xs1 xs2 xi5) ∗ owns (c : Thread nD τ) arg8 fullShare (stepS i x0 x1 x2 xs0)
                ∗ owns (c : Thread nD τ) arg9 fullShare (stepC i x0 x2 xs1) ∗ owns (c : Thread nD τ) arg10 fullShare (stepX i x3 x4 xs0 xs1 xs2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
  subst hf0 hf1 hf2 hf3 hf4 hf5 hfs0 hfs1 hfs2
  have hchk : k0_chk1 i (lo i (arg2.view.read (Elt F) f0)) (hi i (arg2.view.read (Elt F) f0)) := chk hlow i _
  have h1 : ¬ Z0 i := fun h => absurd ((Z0_iff i).1 h).1 (by omega)
  have h2 : ¬ k0_cond2 i (lo i (arg2.view.read (Elt F) f0)) (hi i (arg2.view.read (Elt F) f0)) = 1#1 := fun h => absurd ((In0_iff i _).1 h).1 (by omega)
  have h3 : ¬ Out0 i (fits (lo i (arg2.view.read (Elt F) f0)) (hi i (arg2.view.read (Elt F) f0))) := fun h => absurd ((Out0_iff i _).1 h).1 (by omega)
  have h4 : Z1 i := (Z1_iff i).2 ⟨hp, hi0⟩
  have h5 : if (fits (lo i (arg2.view.read (Elt F) f0)) (hi i (arg2.view.read (Elt F) f0))) = 1#1 then k0_cond5 i (lo i (arg2.view.read (Elt F) f0)) (hi i (arg2.view.read (Elt F) f0)) = 1#1 else ¬ k0_cond5 i (lo i (arg2.view.read (Elt F) f0)) (hi i (arg2.view.read (Elt F) f0)) = 1#1 := by
    rw [cond5_eq]; split <;> simp_all [In1_iff]
  have h6 : if (fits (lo i (arg2.view.read (Elt F) f0)) (hi i (arg2.view.read (Elt F) f0))) = 1#1 then ¬ Out1 i (fits (lo i (arg2.view.read (Elt F) f0)) (hi i (arg2.view.read (Elt F) f0))) else Out1 i (fits (lo i (arg2.view.read (Elt F) f0)) (hi i (arg2.view.read (Elt F) f0))) := by split <;> simp_all [Out1_iff]
  by_cases hfit : (fits (lo i (arg2.view.read (Elt F) f0)) (hi i (arg2.view.read (Elt F) f0))) = 1#1
  all_goals
    first | rw [if_pos hfit] at h5 h6 | rw [if_neg hfit] at h5 h6
    sl_exec (disch := first | sl_exact hchk | sl_exact h1 | sl_exact h2 | sl_exact h3 | sl_exact h4 | sl_exact h5 | sl_exact h6)
    sl_step
    iapply Hk
    isplitl [H0]; · exact own_read c arg2 f0
    isplitl [H1]; · exact own_read c arg3 f1
    isplitl [H2]; · exact own_read c arg4 f2
    isplitl [H3]; · exact own_read c arg5 f3
    isplitl [H4]; · exact own_read c arg6 f4
    isplitl [H5]; refine own_eq c arg7 _ ?_; rotate_left
    isplitl [HS0]; refine own_eq c arg8 _ ?_; rotate_left
    isplitl [HS1]; refine own_eq c arg9 _ ?_; rotate_left
    refine own_eq c arg10 _ ?_; rotate_left
  · refine Eq.trans ?_ (stepO_first (F := F) hp hi0); exact out_in (F := F) _ _ _ hlow hfit _ (View.read_writes_full (Val := Elt F) _ _ _ _ _) (ids_full (F := F) _ _ _) (rows_full (F := F) _ _ _) (congrArg (fun z => VecWindow.window (s := S512x512) z _ S64x512.size (inb64 hlow)) (ctx_new (F := F) _ _ _ _ rfl (sq_full (F := F) _ _ _) (sq_full (F := F) _ _ _) (bias_full (F := F) _ _ _))) rfl
  · exact stepS_keep (F := F) hp
  · exact stepC_keep (F := F) hp
  · refine Eq.trans ?_ (stepX_first (F := F) hp hi0); exact ctx_new (F := F) _ _ _ _ rfl (sq_full (F := F) _ _ _) (sq_full (F := F) _ _ _) (bias_full (F := F) _ _ _)
  · refine Eq.trans ?_ (stepO_first (F := F) hp hi0); exact out_out (F := F) _ _ _ hfit _ (View.readCov_full (Val := Elt F) _ _ _ _ _) (ids_full (F := F) _ _ _) (rows_full (F := F) _ _ _) ((View.readCov_full (Val := Elt F) _ _ _ _ _).trans (ctx_val (F := F) rfl (sq_full (F := F) _ _ _) (sq_full (F := F) _ _ _) (bias_full (F := F) _ _ _)))
  · exact stepS_keep (F := F) hp
  · exact stepC_keep (F := F) hp
  · refine Eq.trans ?_ (stepX_first (F := F) hp hi0); exact ctx_new (F := F) _ _ _ _ rfl (sq_full (F := F) _ _ _) (sq_full (F := F) _ _ _) (bias_full (F := F) _ _ _)

end Cert.KernelIdeal.Seg

end
-- ==== Proof.RunScore.lean ====
module
public import proofs.«01_k».proof.Proof.RunCtx

/-! One grid point of the kernel run from known contents: every buffer ends with what the step functions say. -/

@[expose] public section
set_option maxRecDepth 16384
noncomputable section
namespace Cert.KernelIdeal.Seg
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

attribute [local irreducible] Scalar.cmpi Scalar.andi Scalar.extui Scalar.xori Scalar.addi Scalar.minsi Scalar.muli Scalar.select Scalar.subi Scalar.divsi Scalar.remsi

set_option maxHeartbeats 1000000 in
/-- One grid point, from known contents of every buffer it holds. -/
theorem run_score (c : Dev nD) (i : grid0.Coords) (arg2 : Memref sig .tc .smem S20x2 .i32) (harg2 : arg2.IsWhole) (arg3 : Memref sig .tc .vmem S5000x512 .f32) (harg3 : arg3.IsWhole) (arg4 : Memref sig .tc .vmem S1x1x5000 .i32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x128 .f32) (harg9 : arg9.IsWhole) (arg10 : Memref sig .tc .vmem S512x512 .f32) (harg10 : arg10.IsWhole)
    (x0 : Vec F S20x2 .i32) (x1 : Vec F S5000x512 .f32) (x2 : Vec F S1x1x5000 .i32) (x3 : Vec F S512x512 .f32) (x4 : Vec F S1x512 .f32) (xi5 : Vec F S512x512 .f32) (xs0 : Vec F S512x512 .f32) (xs1 : Vec F S512x128 .f32) (xs2 : Vec F S512x512 .f32)
     (hp : (i 0).val = 1) (hi0 : ¬ (i 1).val = 0) (hlow : Low (lo i x0)) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (stepO i x0 x1 x2 x3 x4 xs0 xs1 xs2 xi5) ∗ owns (c : Thread nD τ) arg8 fullShare (stepS i x0 x1 x2 xs0)
                ∗ owns (c : Thread nD τ) arg9 fullShare (stepC i x0 x2 xs1) ∗ owns (c : Thread nD τ) arg10 fullShare (stepX i x3 x4 xs0 xs1 xs2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
  subst hf0 hf1 hf2 hf3 hf4 hf5 hfs0 hfs1 hfs2
  have hchk : k0_chk1 i (lo i (arg2.view.read (Elt F) f0)) (hi i (arg2.view.read (Elt F) f0)) := chk hlow i _
  have h1 : ¬ Z0 i := fun h => absurd ((Z0_iff i).1 h).1 (by omega)
  have h2 : ¬ k0_cond2 i (lo i (arg2.view.read (Elt F) f0)) (hi i (arg2.view.read (Elt F) f0)) = 1#1 := fun h => absurd ((In0_iff i _).1 h).1 (by omega)
  have h3 : ¬ Out0 i (fits (lo i (arg2.view.read (Elt F) f0)) (hi i (arg2.view.read (Elt F) f0))) := fun h => absurd ((Out0_iff i _).1 h).1 (by omega)
  have h4 : ¬ Z1 i := fun h => hi0 ((Z1_iff i).1 h).2
  have h5 : if (fits (lo i (arg2.view.read (Elt F) f0)) (hi i (arg2.view.read (Elt F) f0))) = 1#1 then k0_cond5 i (lo i (arg2.view.read (Elt F) f0)) (hi i (arg2.view.read (Elt F) f0)) = 1#1 else ¬ k0_cond5 i (lo i (arg2.view.read (Elt F) f0)) (hi i (arg2.view.read (Elt F) f0)) = 1#1 := by
    rw [cond5_eq]; split <;> simp_all [In1_iff]
  have h6 : if (fits (lo i (arg2.view.read (Elt F) f0)) (hi i (arg2.view.read (Elt F) f0))) = 1#1 then ¬ Out1 i (fits (lo i (arg2.view.read (Elt F) f0)) (hi i (arg2.view.read (Elt F) f0))) else Out1 i (fits (lo i (arg2.view.read (Elt F) f0)) (hi i (arg2.view.read (Elt F) f0))) := by split <;> simp_all [Out1_iff]
  by_cases hfit : (fits (lo i (arg2.view.read (Elt F) f0)) (hi i (arg2.view.read (Elt F) f0))) = 1#1
  all_goals
    first | rw [if_pos hfit] at h5 h6 | rw [if_neg hfit] at h5 h6
    sl_exec (disch := first | sl_exact hchk | sl_exact h1 | sl_exact h2 | sl_exact h3 | sl_exact h4 | sl_exact h5 | sl_exact h6)
    sl_step
    iapply Hk
    isplitl [H0]; · exact own_read c arg2 f0
    isplitl [H1]; · exact own_read c arg3 f1
    isplitl [H2]; · exact own_read c arg4 f2
    isplitl [H3]; · exact own_read c arg5 f3
    isplitl [H4]; · exact own_read c arg6 f4
    isplitl [H5]; refine own_eq c arg7 _ ?_; rotate_left
    isplitl [HS0]; refine own_eq c arg8 _ ?_; rotate_left
    isplitl [HS1]; refine own_eq c arg9 _ ?_; rotate_left
    refine own_eq c arg10 _ ?_; rotate_left
  · refine Eq.trans ?_ (stepO_next (F := F) hp hi0); exact out_in (F := F) _ _ _ hlow hfit _ rfl (ids_full (F := F) _ _ _) (rows_full (F := F) _ _ _) rfl rfl
  · exact stepS_keep (F := F) hp
  · exact stepC_keep (F := F) hp
  · exact stepX_keep1 (F := F) hp hi0
  · refine Eq.trans ?_ (stepO_next (F := F) hp hi0); exact out_out (F := F) _ _ _ hfit _ (sq_full (F := F) _ _ _) (ids_full (F := F) _ _ _) (rows_full (F := F) _ _ _) (sq_full (F := F) _ _ _)
  · exact stepS_keep (F := F) hp
  · exact stepC_keep (F := F) hp
  · exact stepX_keep1 (F := F) hp hi0

end Cert.KernelIdeal.Seg

end
-- ==== Proof.Run.lean ====
module
public import proofs.«01_k».proof.Proof.RunScore

/-! One grid point of the kernel run from known contents: every buffer ends with what the step functions say. -/

@[expose] public section
set_option maxRecDepth 16384
noncomputable section
namespace Cert.KernelIdeal.Seg
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- One grid point, from known contents of every buffer it holds. -/
theorem run (c : Dev nD) (i : grid0.Coords) (arg2 : Memref sig .tc .smem S20x2 .i32) (harg2 : arg2.IsWhole) (arg3 : Memref sig .tc .vmem S5000x512 .f32) (harg3 : arg3.IsWhole) (arg4 : Memref sig .tc .vmem S1x1x5000 .i32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x128 .f32) (harg9 : arg9.IsWhole) (arg10 : Memref sig .tc .vmem S512x512 .f32) (harg10 : arg10.IsWhole)
    (x0 : Vec F S20x2 .i32) (x1 : Vec F S5000x512 .f32) (x2 : Vec F S1x1x5000 .i32) (x3 : Vec F S512x512 .f32) (x4 : Vec F S1x512 .f32) (xi5 : Vec F S512x512 .f32) (xs0 : Vec F S512x512 .f32) (xs1 : Vec F S512x128 .f32) (xs2 : Vec F S512x512 .f32)
     (hlow : Low (lo i x0)) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (stepO i x0 x1 x2 x3 x4 xs0 xs1 xs2 xi5) ∗ owns (c : Thread nD τ) arg8 fullShare (stepS i x0 x1 x2 xs0)
                ∗ owns (c : Thread nD τ) arg9 fullShare (stepC i x0 x2 xs1) ∗ owns (c : Thread nD τ) arg10 fullShare (stepX i x3 x4 xs0 xs1 xs2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
  rcases phase_cases i with hp | hp
  · by_cases hi0 : (i 1).val = 0
    · exact run_first c i arg2 harg2 arg3 harg3 arg4 harg4 arg5 harg5 arg6 harg6 arg7 harg7 arg8 harg8 arg9 harg9 arg10 harg10 x0 x1 x2 x3 x4 xi5 xs0 xs1 xs2 hp hi0 hlow E K
    · exact run_acc c i arg2 harg2 arg3 harg3 arg4 harg4 arg5 harg5 arg6 harg6 arg7 harg7 arg8 harg8 arg9 harg9 arg10 harg10 x0 x1 x2 x3 x4 xi5 xs0 xs1 xs2 hp hi0 hlow E K
  · by_cases hi0 : (i 1).val = 0
    · exact run_ctx c i arg2 harg2 arg3 harg3 arg4 harg4 arg5 harg5 arg6 harg6 arg7 harg7 arg8 harg8 arg9 harg9 arg10 harg10 x0 x1 x2 x3 x4 xi5 xs0 xs1 xs2 hp hi0 hlow E K
    · exact run_score c i arg2 harg2 arg3 harg3 arg4 harg4 arg5 harg5 arg6 harg6 arg7 harg7 arg8 harg8 arg9 harg9 arg10 harg10 x0 x1 x2 x3 x4 xi5 xs0 xs1 xs2 hp hi0 hlow E K

end Cert.KernelIdeal.Seg

end
-- ==== Proof.Region.lean ====
module
public import proofs.«01_k».proof.Proof.Run
public import Idealize.ShloMosaic.Lib.Pipeline.DatRel
public import Idealize.ShloMosaic.Lib.Pipeline.ArrRel

/-! The whole grid: what the accumulators, the context and the output hold after each point, the pipeline's proof data
    (the output block held to a predicate, since the first phase leaves it as found), and the run of the program. -/

@[expose] public section
set_option maxRecDepth 16384
noncomputable section
namespace Cert.KernelIdeal.Seg
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf LaunchFacts HMain ΦA arrRef)
variable {F : FTy → Type} [FloatOps F]
local notation "𝕄" => MT nD τ sig Unit (Elt F) ℕ (UR sig nD τ) ℕ

variable (m : (ℓ : Loc nD τ sig) → Buf (Elt F) ℓ) (ρ : Dev nD → PrngReg)

/-! The blocks of the windows at a point. -/

/-- The table of first and last words. -/
abbrev blk0 (c : Dev nD) (t : Fin cfg0.N) : Vec F S20x2 .i32 := iblk m c 0 t
/-- The rows. -/
abbrev blk1 (c : Dev nD) (t : Fin cfg0.N) : Vec F S5000x512 .f32 := iblk m c 1 t
/-- The segment words of the rows. -/
abbrev blk2 (c : Dev nD) (t : Fin cfg0.N) : Vec F S1x1x5000 .i32 := iblk m c 2 t
/-- The weights. -/
abbrev blk3 (c : Dev nD) (t : Fin cfg0.N) : Vec F S512x512 .f32 := iblk m c 3 t
/-- The bias. -/
abbrev blk4 (c : Dev nD) (t : Fin cfg0.N) : Vec F S1x512 .f32 := iblk m c 4 t

/-- The contents carried from point to point: sums, counts, context, output. -/
structure St (F : FTy → Type) where
  /-- the sums -/
  S : Vec F S512x512 .f32
  /-- the counts -/
  C : Vec F S512x128 .f32
  /-- the context -/
  X : Vec F S512x512 .f32
  /-- the output -/
  o : Vec F S512x512 .f32

/-- What they hold after point `t`, from what they held before it. -/
def stepAt (c : Dev nD) (t : Fin cfg0.N) (s : St F) : St F where
  S := stepS (grid0.coords t) (blk0 m c t) (blk1 m c t) (blk2 m c t) s.S
  C := stepC (grid0.coords t) (blk0 m c t) (blk2 m c t) s.C
  X := stepX (grid0.coords t) (blk3 m c t) (blk4 m c t) s.S s.C s.X
  o := stepO (grid0.coords t) (blk0 m c t) (blk1 m c t) (blk2 m c t) (blk3 m c t) (blk4 m c t) s.S s.C s.X s.o

/-- What they hold after the first `n` points (before them, zeros stand for contents nothing reads). -/
def stAt (c : Dev nD) : ℕ → St F
  | 0 => ⟨k0_pay12 (F := F), k0_pay13 (F := F), k0_pay8 (F := F), k0_pay8 (F := F)⟩
  | n + 1 => if h : n < cfg0.N then stepAt m c ⟨n, h⟩ (stAt c n) else stAt c n

theorem stAt_succ (c : Dev nD) (t : Fin cfg0.N) : stAt m c (t.val + 1) = stepAt m c t (stAt m c t.val) := by
  rw [stAt, dif_pos t.isLt]

theorem coord0 (t : Fin cfg0.N) : (grid0.coords t 0).val = t.val / 20 % 2 := Pipeline.Grid.coords_val t 0 (by decide) rfl
theorem coord1 (t : Fin cfg0.N) : (grid0.coords t 1).val = t.val / 1 % 20 := Pipeline.Grid.coords_val t 1 (by decide) rfl
theorem lt40 (t : Fin cfg0.N) : t.val < 40 := lt_of_lt_of_eq t.isLt (show cfg0.N = 40 from N_0)

/-- The sums after point `t`: at the first point whatever was there is overwritten. -/
theorem chainS (c : Dev nD) (t : Fin cfg0.N) (S : Vec F S512x512 .f32) (h : 0 < t.val → S = (stAt m c t.val).S) :
    stepS (grid0.coords t) (blk0 m c t) (blk1 m c t) (blk2 m c t) S = (stAt m c (t.val + 1)).S := by
  rw [stAt_succ]; show _ = stepS _ _ _ _ _
  by_cases ht : 0 < t.val
  · rw [h ht]
  · have h0 := coord0 t; have h1 := coord1 t; have := lt40 t
    rw [← stepS_first (S := S) (by omega) (by omega), ← stepS_first (S := (stAt m c t.val).S) (by omega) (by omega)]

theorem chainC (c : Dev nD) (t : Fin cfg0.N) (C : Vec F S512x128 .f32) (h : 0 < t.val → C = (stAt m c t.val).C) :
    stepC (grid0.coords t) (blk0 m c t) (blk2 m c t) C = (stAt m c (t.val + 1)).C := by
  rw [stAt_succ]; show _ = stepC _ _ _ _
  by_cases ht : 0 < t.val
  · rw [h ht]
  · have h0 := coord0 t; have h1 := coord1 t; have := lt40 t
    rw [← stepC_first (C := C) (by omega) (by omega), ← stepC_first (C := (stAt m c t.val).C) (by omega) (by omega)]

/-- The context after a point of the second phase: its first point makes it anew. -/
theorem chainX (c : Dev nD) (t : Fin cfg0.N) (ht : 20 ≤ t.val) (S : Vec F S512x512 .f32) (C : Vec F S512x128 .f32) (X : Vec F S512x512 .f32)
    (hS : 0 < t.val → S = (stAt m c t.val).S) (hC : 0 < t.val → C = (stAt m c t.val).C) (hX : 20 < t.val → X = (stAt m c t.val).X) :
    stepX (grid0.coords t) (blk3 m c t) (blk4 m c t) S C X = (stAt m c (t.val + 1)).X := by
  rw [stAt_succ]; show _ = stepX _ _ _ _ _ _
  rw [hS (by omega), hC (by omega)]
  by_cases h20 : 20 < t.val
  · rw [hX h20]
  · have h0 := coord0 t; have h1 := coord1 t; have := lt40 t
    rw [← stepX_first (X := X) (by omega) (by omega), ← stepX_first (X := (stAt m c t.val).X) (by omega) (by omega)]

/-- The output after a point of the second phase. -/
theorem chainO (c : Dev nD) (t : Fin cfg0.N) (ht : 20 ≤ t.val) (S : Vec F S512x512 .f32) (C : Vec F S512x128 .f32) (X o : Vec F S512x512 .f32)
    (hS : 0 < t.val → S = (stAt m c t.val).S) (hC : 0 < t.val → C = (stAt m c t.val).C) (hX : 20 < t.val → X = (stAt m c t.val).X)
    (ho : 20 < t.val → o = (stAt m c t.val).o) :
    stepO (grid0.coords t) (blk0 m c t) (blk1 m c t) (blk2 m c t) (blk3 m c t) (blk4 m c t) S C X o = (stAt m c (t.val + 1)).o := by
  rw [stAt_succ]; show _ = stepO _ _ _ _ _ _ _ _ _ _
  rw [hS (by omega), hC (by omega)]
  by_cases h20 : 20 < t.val
  · rw [hX h20, ho h20]
  · have h0 := coord0 t; have h1 := coord1 t; have := lt40 t
    rw [← stepO_first (X := X) (o := o) (by omega) (by omega),
      ← stepO_first (X := (stAt m c t.val).X) (o := (stAt m c t.val).o) (by omega) (by omega)]

/-! The proof data. -/

abbrev scM0_0 : Memref sig .tc .vmem S512x512 .f32 := Memref.whole cc0_scratch0
abbrev scM0_1 : Memref sig .tc .vmem S512x128 .f32 := Memref.whole cc0_scratch1
abbrev scM0_2 : Memref sig .tc .vmem S512x512 .f32 := Memref.whole cc0_scratch2

theorem PhiA0_eq (c : Dev nD) : (Pipeline.ΦA spec0 c : sProp 𝕄)
    = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant after `n` points: the sums and counts known from the first point on, the context from the second phase on. -/
def PhiS (c : Dev nD) (n : ℕ) : sProp 𝕄 :=
  iprop(iprop((∃ S, ⌜0 < n → S = (stAt m c n).S⌝ ∗ owns (c : Thread nD τ) scM0_0 fullShare S)
    ∗ (∃ C, ⌜0 < n → C = (stAt m c n).C⌝ ∗ owns (c : Thread nD τ) scM0_1 fullShare C)
    ∗ (∃ X, ⌜20 < n → X = (stAt m c n).X⌝ ∗ owns (c : Thread nD τ) scM0_2 fullShare X)) ∗ (∃ r, prngReg c r))

theorem PhiS_in (c : Dev nD) : (Pipeline.ΦA spec0 c : sProp 𝕄) ⊢ PhiS m c 0 := by
  rw [PhiA0_eq]; unfold PhiS
  iintro ⟨⟨⟨%S, HS⟩, ⟨%C, HC⟩, ⟨%X, HX⟩⟩, Hg⟩
  isplitl [HS HC HX]
  · isplitl [HS]
    · iexists S; isplitr
      · ipureintro; exact fun h => absurd h (Nat.lt_irrefl 0)
      · iexact HS
    isplitl [HC]
    · iexists C; isplitr
      · ipureintro; exact fun h => absurd h (Nat.lt_irrefl 0)
      · iexact HC
    iexists X; isplitr
    · ipureintro; exact fun h => absurd h (by omega)
    · iexact HX
  iexact Hg

theorem PhiS_out (c : Dev nD) (n : ℕ) : (PhiS m c n : sProp 𝕄) ⊢ Pipeline.ΦA spec0 c := by
  rw [PhiA0_eq]; unfold PhiS
  iintro ⟨⟨⟨%S, -, HS⟩, ⟨%C, -, HC⟩, ⟨%X, -, HX⟩⟩, Hg⟩
  isplitl [HS HC HX]
  · isplitl [HS]
    · iexists S; iexact HS
    isplitl [HC]
    · iexists C; iexact HC
    iexists X; iexact HX
  iexact Hg

/-- What the body leaves in each window. -/
def leftIn (c : Dev nD) (w : Fin cfg0.W) (t : Fin cfg0.N) : (cfg0.win w).block.Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => (stAt m c (t.val + 1)).o

/-- The pipeline's proof data. -/
def dats (p : Fin 1) (c : Dev nD) : Dat τ (Elt F) Unit ℕ (UR sig nD τ) ℕ (cfgs p) c :=
  match p with
  | ⟨0, _⟩ =>
    { A := fun w => V m c (Pipeline.arrRef spec0 w)
      after := leftIn m c
      Φ := fun t => PhiS m c t.val
      q := fun _ => fullShare
      owed := fun _ => 0 }

/-- The output window is held to a predicate. -/
def marked : Fin cfg0.W → Bool := fun w => decide (w.val = 5)

/-- After a point of the second phase the output block is what the point's step makes it. -/
def held (c : Dev nD) (w : Fin cfg0.W) (t : Fin cfg0.N) (X : (cfg0.win w).block.Idx → Elt F (cfg0.win w).elt) : Prop :=
  20 ≤ t.val → X = leftIn m c w t

theorem A_eq (c : Dev nD) (w : Fin cfg0.W) : (dats m 0 c).A w = V m c (Pipeline.arrRef spec0 w) := by dsimp only [dats]

theorem found5 (c : Dev nD) (t : Fin cfg0.N) (Y : Vec F S512x512 .f32)
    (h : ((dats m 0 c).toRRel marked (held m c)).Finds (5 : Fin cfg0.W) t Y) (ht : 20 < t.val) : Y = (stAt m c t.val).o := by
  have hf : (cfg0.win (5 : Fin cfg0.W)).fetch t = false := rfl
  have hpos : t.val ≠ 0 := by omega
  have hN := lt40 t
  rcases (RDat.finds_of_pos _ hf hpos Y).mp h with hfl | hlv
  · have := (flush0_5 _).mp hfl
    simp only at this; omega
  · have h5 : marked (5 : Fin cfg0.W) = true := rfl
    have := (dats m 0 c).toRRel_leaves h5 hlv (by simp only; omega)
    have e : t.val - 1 + 1 = t.val := by omega
    rw [this]; show (stAt m c (t.val - 1 + 1)).o = _; rw [e]

/-! The body's obligation. -/

theorem after0_0 (c : Dev nD) (t : Fin cfg0.N) : (dats m 0 c).after 0 t = iblk m c 0 t := by dsimp only [dats]; rfl
theorem after0_1 (c : Dev nD) (t : Fin cfg0.N) : (dats m 0 c).after 1 t = iblk m c 1 t := by dsimp only [dats]; rfl
theorem after0_2 (c : Dev nD) (t : Fin cfg0.N) : (dats m 0 c).after 2 t = iblk m c 2 t := by dsimp only [dats]; rfl
theorem after0_3 (c : Dev nD) (t : Fin cfg0.N) : (dats m 0 c).after 3 t = iblk m c 3 t := by dsimp only [dats]; rfl
theorem after0_4 (c : Dev nD) (t : Fin cfg0.N) : (dats m 0 c).after 4 t = iblk m c 4 t := by dsimp only [dats]; rfl
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

theorem Phi_castSucc (c : Dev nD) (t : Fin cfg0.N) : (dats m 0 c).Φ t.castSucc = PhiS m c t.val := by dsimp only [dats]; rfl
theorem Phi_succ (c : Dev nD) (t : Fin cfg0.N) : (dats m 0 c).Φ t.succ = PhiS m c (t.val + 1) := by dsimp only [dats]; rfl

/-- What the pipeline hands the body at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜((dats m 0 c).toRRel marked (held m c)).Finds (5 : Fin cfg0.W) t Y⌝ ∗ owns (c : Thread nD τ) (st0_5 t) fullShare Y))

/-- What the body gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜held m c (5 : Fin cfg0.W) t X⌝ ∗ owns (c : Thread nD τ) (st0_5 t) fullShare X))

theorem sound_body (c : Dev nD) (t : Fin cfg0.N) (hlow : Low (lo (grid0.coords t) (blk0 m c t))) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, after0_0, after0_1, after0_2, after0_3, after0_4]
  rw [show (dats m 0 c).owesAt () t.succ = (dats m 0 c).owesAt () t.castSucc from rfl, Phi_castSucc, Phi_succ]
  unfold PhiS
  iintro ⟨⟨⟨⟨%S, %hS, HS0⟩, ⟨%C, %hC, HS1⟩, ⟨%X, %hX, HS2⟩⟩, Hg⟩, Ho, ⟨%d0, H0⟩, ⟨%d1, H1⟩, ⟨%d2, H2⟩, ⟨%d3, H3⟩, ⟨%d4, H4⟩, ⟨%o, %ho, H5⟩⟩
  iapply (run c (grid0.coords t) _ _ _ _ _ _ _ _ _ _ _ _ _ _ _ _ _ _ (blk0 m c t) (blk1 m c t) (blk2 m c t) (blk3 m c t) (blk4 m c t) o S C X hlow Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexists _; isplitr
        swap; · iexact HS0
        ipureintro; exact fun _ => chainS m c t S hS
      isplitl [HS1]
      · iexists _; isplitr
        swap; · iexact HS1
        ipureintro; exact fun _ => chainC m c t C hC
      iexists _; isplitr
      swap; · iexact HS2
      ipureintro; exact fun h => chainX m c t (by omega) S C X hS hC hX
    iexact Hg
  isplitl [Ho]; · iexact Ho
  isplitl [H0]; · iexact H0
  isplitl [H1]; · iexact H1
  isplitl [H2]; · iexact H2
  isplitl [H3]; · iexact H3
  isplitl [H4]; · iexact H4
  iexists _; isplitr
  swap; · iexact H5
  ipureintro; exact fun h => chainO m c t h S C X o hS hC hX (found5 m c t o ho)

theorem defs₀_row (t : Fin cfg0.N) : defs₀ (F := F) .tc cfg0.body (cfg0.bodyArgs t (cfg0.slots t)) = bodyAt0 t := by
  unfold defs₀; rw [Defs.onTc_tc]

theorem body_obligation (c : Dev nD) (hlow : ∀ t, Low (lo (grid0.coords t) (blk0 m c t))) :
    BodyObligationRel (dats (F := F) m 0 c) (defs₀ (F := F)) Variants.none () Set.univ marked (held m c) := fun t => by
  rw [bigSep_W0, bigSep_W0, defs₀_row]
  exact triple_restated (sound_body m c t (hlow t)) rfl .rfl fun _ => .rfl

/-! The launch. -/

section Launch
variable {P : Type} [Fintype P] [DecidableEq P] {nD' : ℕ} {τ' : Topo} {sig' : RefSig} {Val : EltTy → Type} [∀ e, Nonempty (Val e)] {Λ' : Idealize.SL.Sem.Labels}

/-- The frame run with a tracking invariant, the marked windows held to a predicate. -/
theorem run_rel (cfgs' : P → Cfg sig' Λ') (dats' : (p : P) → (c : Dev nD') → Dat τ' Val Unit ℕ (UR sig' nD' τ') ℕ (cfgs' p) c) (p : P)
    (kit : LaunchFacts (nD := nD') (τ := τ') cfgs' p) (defs₀' : Defs nD' τ' sig' Val Λ') (𝒱₀ : Variants)
    (fgt : Fin (cfgs' p).W → Bool)
    (Rl : (c : Dev nD') → (w : Fin (cfgs' p).W) → Fin (cfgs' p).N → (((cfgs' p).win w).block.Idx → Val ((cfgs' p).win w).elt) → Prop)
    (m' : (ℓ : Loc nD' τ' sig') → Buf Val ℓ) (g : Dev nD' → PrngReg)
    (main' : Dev nD' → Prog (TpuEff nD' τ' sig' Val (Pipeline.Sig Λ' P fun p => ((cfgs' p).toPCfg (Val := Val)).Adm) .tc) PUnit)
    (hbody : ∀ c, BodyObligationRel (dats' p c) defs₀' 𝒱₀ () Set.univ fgt (Rl c))
    (hshare : ∀ c w, (dats' p c).share w = fullShare) (howed : ∀ c t, (dats' p c).owed t = 0)
    (V' : (c : Dev nD') → (b : Ref sig' .tc) → Buf Val ((c.tc : Thread nD' τ').loc b))
    (hmain' : HMain (Ix := Unit) (Name := ℕ) (U := UR sig' nD' τ') (Lvl := ℕ) cfgs' p defs₀' 𝒱₀ m' main' V')
    (hA : ∀ c w, (dats' p c).A w = V' c (arrRef (cfgs' p).spec w))
    (hin : ∀ c, ΦA (cfgs' p).spec c ⊢ (dats' p c).Φ 0) (hout : ∀ c, (dats' p c).Φ (Fin.last (cfgs' p).N) ⊢ ΦA (cfgs' p).spec c) :
    θ_run (Pipeline.defs (fun q => Cfg.toPCfg (Val := Val) (cfgs' q)) defs₀') (onTc main') (s₀ m' g)
      (fun r => RDat.FramePost (cfgs' p) (fun c => (dats' p c).toRRel fgt (Rl c)) V' r ∧ r.2.sem = fun _ => 0) :=
  RDat.θ_run_frame_track cfgs' p kit defs₀' 𝒱₀ (fun c => (dats' p c).toRRel fgt (Rl c)) m' g main' (fun c => (hbody c).toRRel)
    hshare howed V' hmain' hA hin hout _ (fun _ h => h)

end Launch

set_option backward.isDefEq.respectTransparency.types false in
/-- The program ends, with every array as the proof data say and every counter at zero. -/
theorem run_main (hlow : ∀ c t, Low (lo (grid0.coords t) (blk0 m c t))) :
    θ_run defs (onTc (τ := τ) (main (F := F))) (s₀ m ρ)
      (fun r => RDat.FramePost cfg0 (fun c => (dats m 0 c).toRRel marked (held m c)) (V m) r ∧ r.2.sem = fun _ => 0) :=
  run_rel cfgs (dats m) (0 : Fin 1) launch0 defs₀ Variants.none marked (held m) m ρ main
    (hbody := fun c => body_obligation m c (hlow c)) (hshare := fun c => (dats m 0 c).share_full fun _ => rfl)
    (howed := fun _ _ => rfl) (V' := V m) (hmain' := hmain m Variants.none) (hA := A_eq m)
    (hin := fun c => PhiS_in m c) (hout := fun c => PhiS_out m c _)

theorem toRRel_A (c : Dev nD) (w : Fin cfg0.W) : ((dats m 0 c).toRRel marked (held m c)).A w = V m c (Pipeline.arrRef spec0 w) := A_eq m c w

/-- The arguments end as they began. -/
theorem unchanged (hlow : ∀ c t, Low (lo (grid0.coords t) (blk0 m c t))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨(h.1.arr_in c 1 rfl).trans ((toRRel_A m c 1).trans (V_main_arg0 m c)),
      ((h.1 c).2 main_arg1 (Pipeline.mem_restRefs_of main_arg1 (by decide) (by decide))).trans (V_main_arg1 m c),
      (h.1.arr_in c 3 rfl).trans ((toRRel_A m c 3).trans (V_main_arg2 m c)),
      ((h.1 c).2 main_arg3 (Pipeline.mem_restRefs_of main_arg3 (by decide) (by decide))).trans (V_main_arg3 m c)⟩, h.2⟩) (run_main m ρ hlow)

/-- The result array ends at the output block of the last point. -/
theorem result (hlow : ∀ c t, Low (lo (grid0.coords t) (blk0 m c t))) :
    θ_run defs (onTc (τ := τ) (main (F := F))) ⟨m, fun _ => 0, ρ⟩ (fun r => ∀ c : Dev nD,
      r.2.mem ((c.tc : Thread nD τ).loc main_v10) = (stAt m c 40).o) := by
  refine (θ_run defs _ _).mono (fun r h c => ?_) (run_main m ρ hlow)
  have hG := (h.1 c).1 (5 : Fin cfg0.W)
  have hw : (cfg0.win (5 : Fin cfg0.W)).WholeAt (⟨39, by rw [show cfg0.N = 40 from N_0]; omega⟩ : Fin cfg0.N) := by decide +kernel
  obtain ⟨X, hX, hj⟩ := RDat.ArrAt.emb_eq_of_wholeAt hG hw
  have h5 : marked (5 : Fin cfg0.W) = true := rfl
  have hX' := (dats m 0 c).toRRel_leaves h5 hX (by simp only; omega)
  funext j
  refine (hj j).trans ?_
  rw [hX']; rfl

end Cert.KernelIdeal.Seg
end
-- ==== Proof.Blocks.lean ====
module
public import proofs.«01_k».proof.Proof.Region
public import Idealize.ShloMosaic.Lib.ValueIdxCore
public import Idealize.ShloMosaic.Lib.Claim
public import Idealize.ShloMosaic.Lib.Pointwise
public import Idealize.ShloMosaic.Lib.StableHlo.ReadAt
public import Idealize.ShloMosaic.Lib.Pipeline.ValueKit

/-! The windows' blocks read at an index of the arguments. -/

@[expose] public section
set_option maxRecDepth 16384
noncomputable section
namespace Cert.KernelIdeal.Seg
open Cert.KernelIdeal.Gen
open Idealize.ShloMosaic Idealize.ShloMosaic.TcCoe Idealize.ShloMosaic.Tactic
open Idealize.ShloMosaic.Pipeline (Dat RDat Cfg Window)
variable {F : FTy → Type} [FloatOps F]

variable (m : (ℓ : Loc nD τ sig) → Buf (Elt F) ℓ)

theorem idx_facts : ∀ t : Fin cfg0.N, (win0_0.index t 0 = 0 ∧ win0_0.index t 1 = 0) ∧ (win0_1.index t 0 = t.val % 20 ∧ win0_1.index t 1 = 0)
    ∧ (win0_2.index t 0 = t.val % 20 ∧ win0_2.index t 1 = 0 ∧ win0_2.index t 2 = 0) ∧ (win0_3.index t 0 = 0 ∧ win0_3.index t 1 = 0)
    ∧ (win0_4.index t 0 = 0 ∧ win0_4.index t 1 = 0) := by decide +kernel

/-- The point's block number. -/
abbrev blkNo (t : Fin cfg0.N) : ℕ := t.val % 20

/-- Row `j` of the block at point `t`, as a node. -/
def nodeOf (t : Fin cfg0.N) (j : Fin 5000) : Fin 100000 := ⟨5000 * (t.val % 20) + j.val, by have := j.isLt; omega⟩

theorem blk1_at (c : Dev nD) (t : Fin cfg0.N) (j : Fin 5000) (d : Fin 512) :
    blk1 m c t (ix2 j d) = (m ((c : Thread nD τ).loc main_arg0) : Vec F S100000x512 .f32) (ix2 (nodeOf t j) d) := by
  have idx := idx_facts
  blk_ext [blk1, nodeOf, iblk, V_main_arg0, idx t]

theorem blk3_at (c : Dev nD) (t : Fin cfg0.N) : blk3 m c t = (m ((c : Thread nD τ).loc main_arg2) : Vec F S512x512 .f32) := by
  have idx := idx_facts
  funext j
  blk_ext [blk3, iblk, V_main_arg2, idx t]

theorem V9_at (c : Dev nD) (d : Fin 512) :
    (V m c main_v9 : Vec F S1x512 .f32) (ix2 0 d) = (m ((c : Thread nD τ).loc main_arg3) : Vec F S512 .f32) (ix1 d) := by
  unfold V
  after_reads_at

/-- The words in rows of 5000. -/
abbrev rows (B : Vec F S100000 .i32) : Vec F S20x5000 .i32 := shapeCast S20x5000 B shapeCasts_S100000_S20x5000

theorem rows_at (B : Vec F S100000 .i32) (i : Fin 20) (j : Fin 5000) :
    rows B (ix2 i j) = B (ix1 ⟨5000 * i.val + j.val, by omega⟩) := by
  unfold rows
  pointwise
  congr 2
  apply Fin.ext
  show i.val * 5000 + j.val = 5000 * i.val + j.val
  omega

theorem V8_eq (c : Dev nD) : (V m c main_v8 : Vec F S20x1x5000 .i32)
    = shapeCast S20x1x5000 (rows (m ((c : Thread nD τ).loc main_arg1))) shapeCasts_S20x5000_S20x1x5000 := by
  unfold V
  after_results
  rfl

theorem V7_eq (c : Dev nD) : (V m c main_v7 : Vec F S20x2 .i32)
    = concatenate S20x2 1
      [⟨S20x1, broadcastInDim S20x1 ![0] bcast_S20_S20x1_0
          (shapeCast S20 (extractStridedSlice S20x1 ![0, 0] (rows (m ((c : Thread nD τ).loc main_arg1))) slices_S20x5000_S20x1_0_0) shapeCasts_S20x1_S20)⟩,
        ⟨S20x1, broadcastInDim S20x1 ![0] bcast_S20_S20x1_0
          (shapeCast S20 (extractStridedSlice S20x1 ![0, 4999] (rows (m ((c : Thread nD τ).loc main_arg1))) slices_S20x5000_S20x1_0_4999) shapeCasts_S20x1_S20)⟩]
      concatenates_S20x1_S20x1_S20x2_d1 := by
  unfold V
  after_results
  rfl

theorem V8_at (c : Dev nD) (i : Fin 20) (j : Fin 5000) :
    (V m c main_v8 : Vec F S20x1x5000 .i32) (ix3 i 0 j) = (m ((c : Thread nD τ).loc main_arg1) : Vec F S100000 .i32) (ix1 ⟨5000 * i.val + j.val, by omega⟩) := by
  rw [V8_eq]
  refine Eq.trans ?_ (rows_at _ i j)
  generalize rows (m ((c : Thread nD τ).loc main_arg1)) = R
  pointwise

theorem V7_at0 (c : Dev nD) (i : Fin 20) :
    (V m c main_v7 : Vec F S20x2 .i32) (ix2 i 0) = (m ((c : Thread nD τ).loc main_arg1) : Vec F S100000 .i32) (ix1 ⟨5000 * i.val, by omega⟩) := by
  rw [V7_eq]
  refine Eq.trans ?_ (rows_at _ i 0)
  generalize rows (m ((c : Thread nD τ).loc main_arg1)) = R
  pointwise

theorem V7_at1 (c : Dev nD) (i : Fin 20) :
    (V m c main_v7 : Vec F S20x2 .i32) (ix2 i 1) = (m ((c : Thread nD τ).loc main_arg1) : Vec F S100000 .i32) (ix1 ⟨5000 * i.val + 4999, by omega⟩) := by
  rw [V7_eq]
  refine Eq.trans ?_ (rows_at _ i ⟨4999, by omega⟩)
  generalize rows (m ((c : Thread nD τ).loc main_arg1)) = R
  pointwise

theorem blk2_at (c : Dev nD) (t : Fin cfg0.N) (j : Fin 5000) :
    blk2 m c t (ix3 0 0 j) = (m ((c : Thread nD τ).loc main_arg1) : Vec F S100000 .i32) (ix1 (nodeOf t j)) := by
  refine Eq.trans ?_ (V8_at m c ⟨t.val % 20, Nat.mod_lt _ (by omega)⟩ j)
  have idx := idx_facts
  blk_ext [blk2, iblk, idx t]

theorem blk4_at (c : Dev nD) (t : Fin cfg0.N) (d : Fin 512) :
    blk4 m c t (ix2 0 d) = (m ((c : Thread nD τ).loc main_arg3) : Vec F S512 .f32) (ix1 d) := by
  refine Eq.trans ?_ (V9_at m c d)
  have idx := idx_facts
  blk_ext [blk4, iblk, idx t]

theorem blk0_at (c : Dev nD) (t : Fin cfg0.N) (i : Fin 20) (k : Fin 2) :
    blk0 m c t (ix2 i k) = (V m c main_v7 : Vec F S20x2 .i32) (ix2 i k) := by
  have idx := idx_facts
  blk_ext [blk0, iblk, idx t]

/-- The word at a point's row of the table: the first column. -/
theorem lo_at (t : Fin cfg0.N) (x : Vec F S20x2 .i32) : lo (grid0.coords t) x = x (ix2 ⟨t.val % 20, Nat.mod_lt _ (by omega)⟩ 0) := by
  unfold lo VecWindow.window
  congr 1
  funext a
  apply Fin.ext
  have e := congrFun (k0_off1_eq (grid0.coords t)) a
  refine Eq.trans (congrArg (· + 1 * (one11 a).val) e) ?_
  fin_cases a
  · show (grid0.coords t 1).val + 1 * 0 = t.val % 20
    rw [coord1]; omega
  · rfl

theorem hi_at (t : Fin cfg0.N) (x : Vec F S20x2 .i32) : hi (grid0.coords t) x = x (ix2 ⟨t.val % 20, Nat.mod_lt _ (by omega)⟩ 1) := by
  unfold hi VecWindow.window
  congr 1
  funext a
  apply Fin.ext
  have e := congrFun (k0_off2_eq (grid0.coords t)) a
  refine Eq.trans (congrArg (· + 1 * (one11 a).val) e) ?_
  fin_cases a
  · show (grid0.coords t 1).val + 1 * 0 = t.val % 20
    rw [coord1]; omega
  · rfl

/-- The block's first word. -/
theorem lo_eq (c : Dev nD) (t : Fin cfg0.N) : lo (grid0.coords t) (blk0 m c t) = (m ((c : Thread nD τ).loc main_arg1) : Vec F S100000 .i32) (ix1 (nodeOf t 0)) := by
  rw [lo_at, blk0_at, V7_at0]; rfl

/-- The block's last word. -/
theorem hi_eq (c : Dev nD) (t : Fin cfg0.N) : hi (grid0.coords t) (blk0 m c t) = (m ((c : Thread nD τ).loc main_arg1) : Vec F S100000 .i32) (ix1 (nodeOf t ⟨4999, by omega⟩)) := by
  rw [hi_at, blk0_at, V7_at1]; rfl

end Cert.KernelIdeal.Seg
end
-- ==== Proof.Base.lean ====
module
public import proofs.«01_k».proof.Proof.StepDefs
public import Idealize.ShloMosaic.Lib.Affine
public import Idealize.ShloMosaic.Lib.Tactic.WordOmega

/-! The window's first row, for a first id that is not negative. -/

@[expose] public section
noncomputable section
namespace Cert.KernelIdeal.Seg
open Cert.KernelIdeal.Gen
open Idealize.ShloMosaic Idealize.ShloMosaic.Tactic

/-- A word that is not negative is rounded towards zero, so no correction is made. -/
theorem base_eq (a : BitVec 32) (h : a.toNat < 2 ^ 31) :
    base a = Scalar.minsi (Scalar.muli (Scalar.divsi a 8#32) 8#32) 448#32 := by
  by_cases h0 : a = 0#32
  · subst h0; decide +kernel
  · have ta : a.toInt = a.toNat := BitVec.toInt_eq_toNat_of_lt (by omega)
    have hp : 0 < a.toNat := Nat.pos_of_ne_zero fun e => h0 (BitVec.eq_of_toNat_eq (by simpa using e))
    have e1 : Scalar.cmpi .sgt a 0#32 = 1#1 := by
      show IntOp.cmpi .sgt a 0#32 = 1#1
      simp only [IntOp.cmpi]
      have : (0#32).slt a = true := by
        rw [BitVec.slt_iff_toInt_lt, ta]
        show (0 : ℤ) < a.toNat
        omega
      rw [this]; rfl
    have e2 : Scalar.cmpi .slt a 0#32 = 0#1 := by
      show IntOp.cmpi .slt a 0#32 = 0#1
      simp only [IntOp.cmpi]
      have : a.slt (0#32) = false := by
        rw [← Bool.not_eq_true, BitVec.slt_iff_toInt_lt, ta]
        show ¬ (a.toNat : ℤ) < 0
        omega
      rw [this]; rfl
    have e3 : ∀ x : BitVec 1, Scalar.andi (Scalar.cmpi .ne (Scalar.subi (Scalar.extui (1#1)) (Scalar.extui (0#1)) : BitVec 32)
        (Scalar.subi (Scalar.extui (Scalar.cmpi .sgt 8#32 0#32)) (Scalar.extui (Scalar.cmpi .slt 8#32 0#32)))) x = 0#1 := by decide +kernel
    unfold base
    simp only [e1, e2]
    rw [e3]
    rfl

/-- The window's first row is at most the block's first id, and at most 448. -/
theorem base_le (a : BitVec 32) (h : a.toNat < 2 ^ 31) : (base a).toNat ≤ a.toNat ∧ (base a).toNat ≤ 448 := by
  have ia : Affine.IsInt a (a.toNat : ℤ) := Affine.relit (Affine.word a) (BitVec.toInt_eq_toNat_of_lt (by omega))
  have i8 : Affine.IsInt (8#32) 8 := Affine.ofNat 8 (by omega)
  have ic : Affine.IsInt (448#32) 448 := Affine.ofNat 448 (by omega)
  have iq := Affine.divsi (e := (a.toNat : ℤ) / 8) ia i8 (by omega)
  have im := Affine.muli (e := (a.toNat : ℤ) / 8 * 8) iq i8 (by omega)
  have ib := Affine.minsi (e := min ((a.toNat : ℤ) / 8 * 8) 448) im ic rfl
  rw [← base_eq a h] at ib
  unfold Affine.IsInt at ib
  have hc := BitVec.toInt_eq_toNat_cond (base a)
  have hl := (base a).isLt
  split at hc <;> omega

/-- A first id that is not negative leaves the window inside. -/
theorem low_of_nonneg (a : BitVec 32) (h : a.toNat < 2 ^ 31) : Low a := (base_le a h).2

end Cert.KernelIdeal.Seg
end
-- ==== Proof.Pre.lean ====
module
public import proofs.«01_k».proof.Proof.Blocks
public import proofs.«01_k».proof.Proof.Base
public import proofs.«01_k».proof.Proof.Gen.Pre_batch_nonneg
public import proofs.«01_k».proof.Proof.Gen.Pre_batch_sorted
public import Idealize.ShloMosaic.Lib.Tactic.WordOmega

/-! What the preconditions say of the batch ids: none is negative, and they never fall. -/

@[expose] public section
noncomputable section
namespace Cert.KernelIdeal.Seg
open Idealize.ShloMosaic Idealize.ShloMosaic.TcCoe Idealize.ShloMosaic.Tactic
variable {F : FTy → Type} [FloatOps F]

/-- No id negative. -/
def Nonneg (B : IVec (⟨1, ![100000]⟩ : Shape) 32) : Prop := ∀ n : Fin 100000, (B (ix1 n)).toNat < 2 ^ 31

/-- Ids not negative, never falling. -/
structure Sorted (B : IVec (⟨1, ![100000]⟩ : Shape) 32) : Prop where
  /-- not negative -/
  lt : Nonneg B
  /-- never falling -/
  mono : ∀ a b : Fin 100000, a ≤ b → (B (ix1 a)).toNat ≤ (B (ix1 b)).toNat

theorem word_range (w : BitVec 32) (h : Scalar.cmpi .sge w 0#32 = 1#1) : w.toNat < 2 ^ 31 := by
  word_omega

theorem word_le (a b : BitVec 32) (ha : a.toNat < 2 ^ 31) (hb : b.toNat < 2 ^ 31) (h : Scalar.cmpi .sge a b = 1#1) : b.toNat ≤ a.toNat := by
  word_omega

theorem nonneg_of_pre [Cert.Pre_batch_nonneg.Facts] (A0 : FVec F (⟨2, ![100000, 512]⟩ : Shape) .f32) (B : IVec (⟨1, ![100000]⟩ : Shape) 32)
    (A2 : FVec F (⟨2, ![512, 512]⟩ : Shape) .f32) (A3 : FVec F (⟨1, ![512]⟩ : Shape) .f32)
    (h : Cert.Pre_batch_nonneg.fn A0 B A2 A3 = fun _ => 1#1) : Nonneg B :=
  fun n => word_range _ (congrFun h (ix1 n))

theorem sorted_of_pre [Cert.Pre_batch_sorted.Facts] (A0 : FVec F (⟨2, ![100000, 512]⟩ : Shape) .f32) (B : IVec (⟨1, ![100000]⟩ : Shape) 32)
    (A2 : FVec F (⟨2, ![512, 512]⟩ : Shape) .f32) (A3 : FVec F (⟨1, ![512]⟩ : Shape) .f32)
    (h1 : (Cert.Pre_batch_sorted.fn A0 B A2 A3).1 = fun _ => 1#1) (h2 : (Cert.Pre_batch_sorted.fn A0 B A2 A3).2 = fun _ => 1#1) : Sorted B := by
  have lt : Nonneg B := fun n => word_range _ (congrFun h1 (ix1 n))
  refine ⟨lt, ?_⟩
  have step : ∀ k : ℕ, ∀ h : k + 1 < 100000, (B (ix1 ⟨k, by omega⟩)).toNat ≤ (B (ix1 ⟨k + 1, h⟩)).toNat := fun k h => by
    have e := congrFun h2 (ix1 ⟨k, by omega⟩)
    refine word_le _ _ (lt _) (lt _) ?_
    refine Eq.trans ?_ e
    show Scalar.cmpi .sge (B _) (B _) = Scalar.cmpi .sge (B _) (B _)
    congr 2
    · funext a; fin_cases a; apply Fin.ext; show k + 1 = 1 + k; omega
    · funext a; fin_cases a; apply Fin.ext; show k = 0 + k; omega
  have all : ∀ d k : ℕ, ∀ h : k + d < 100000, (B (ix1 ⟨k, by omega⟩)).toNat ≤ (B (ix1 ⟨k + d, h⟩)).toNat := fun d => by
    induction d with
    | zero => exact fun k h => le_refl _
    | succ d ih => exact fun k h => (ih k (by omega)).trans (step (k + d) (by omega))
  intro a b hab
  have := all (b.val - a.val) a.val (by have := b.isLt; have : a.val ≤ b.val := hab; omega)
  have e : (⟨a.val + (b.val - a.val), by have := b.isLt; have : a.val ≤ b.val := hab; omega⟩ : Fin 100000) = b := Fin.ext (by have : a.val ≤ b.val := hab; show a.val + (b.val - a.val) = b.val; omega)
  rw [e] at this
  exact this

/-- With no id negative every point's window lies inside the array. -/
theorem low_of_ids (m : (ℓ : Loc nD τ sig) → Buf (Elt F) ℓ)
    (h : ∀ c : Dev nD, Nonneg (m ((c : Thread nD τ).loc main_arg1))) (c : Dev nD) (t : Fin cfg0.N) :
    Low (lo (grid0.coords t) (blk0 m c t)) := by
  rw [lo_eq]
  exact low_of_nonneg _ (h c _)

end Cert.KernelIdeal.Seg
end
-- ==== Proof.Frames.lean ====
module
public import proofs.«01_k».proof.Defs
public import proofs.«01_k».proof.Proof.Pre
public import proofs.«01_k».proof.Proof.Gen.Kernel
public import proofs.«01_k».proof.Proof.Gen.ReferenceIdeal
public import proofs.«01_k».proof.Proof.Gen.ReferenceIdeal.Run

/-! The kernel and the reference run, leave their arguments as they were, and end with every counter at zero. -/

@[expose] public section
set_option maxRecDepth 16384
noncomputable section
namespace Cert.Frames
open Idealize.ShloMosaic Idealize.ShloMosaic.TcCoe Idealize.SL.Sem
open Cert.KernelIdeal.Seg (nonneg_of_pre sorted_of_pre low_of_ids)

attribute [local instance] Cert.Kernel.Gen.facts Cert.KernelIdeal.Gen.facts Cert.ReferenceIdeal.Gen.facts Cert.Pre_batch_nonneg.Gen.facts Cert.Pre_batch_sorted.Gen.facts

variable {F : FTy → Type} [FloatOps F]

theorem body_same : Cert.Kernel.cc0__body (F := F) = Cert.KernelIdeal.cc0__body (F := F) := rfl

theorem defs0_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

theorem defs_same : Cert.Kernel.defs (F := F) = Cert.KernelIdeal.defs (F := F) := by
  unfold Cert.Kernel.defs Cert.KernelIdeal.defs
  exact congrArg (Pipeline.defs Cert.KernelIdeal.pcfgs) defs0_same

theorem main_same : Cert.Kernel.main (F := F) = Cert.KernelIdeal.main (F := F) := rfl

theorem kernelIdeal : Cert.quiescent_KernelIdeal := by
  intro m g hpre
  exact Cert.KernelIdeal.Seg.unchanged m g (low_of_ids m (fun c => nonneg_of_pre _ _ _ _ (hpre c)))

theorem kernelIdeal_sorted : Cert.quiescent_KernelIdeal_pre_batch_sorted := by
  intro m g hpre
  exact Cert.KernelIdeal.Seg.unchanged m g (low_of_ids m (fun c => (sorted_of_pre _ _ _ _ (hpre c).1 (hpre c).2).lt))

theorem kernel : Cert.quiescent_Kernel := by
  intro m g hpre
  have h := Cert.KernelIdeal.Seg.unchanged (F := Bits) m g (low_of_ids m (fun c => nonneg_of_pre _ _ _ _ (hpre c)))
  rw [← defs_same, ← main_same] at h
  exact h

theorem referenceIdeal : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

end Cert.Frames
end
-- ==== Proof.Payload.lean ====
module
public import proofs.«01_k».proof.Proof.StepDefs
public import Idealize.ShloMosaic.Lib.Pointwise
public import Idealize.ShloMosaic.Lib.Tactic.WordOmega
public import Idealize.ShloMosaic.PureOps.Ideal.Laws

/-! Each stored value of the kernel at the ideal floats, read at one entry. -/

@[expose] public section
set_option maxRecDepth 16384
noncomputable section
namespace Cert.KernelIdeal.Seg
open Cert.KernelIdeal.Gen
open Idealize.ShloMosaic Idealize.ShloMosaic.Tactic

/-- The entry of a one-hot matrix: one where the two words agree, else zero. -/
def hit (a b : BitVec 32) : EReal := FloatOps.sitofp (F := Ideal) FTy.f32 (BitVec.setWidth 32 (IntOp.cmpi CmpIPredicate.eq a b))

theorem hit_eq (a b : BitVec 32) : hit a b = if a = b then 1 else 0 := by
  unfold hit
  by_cases h : a = b
  · subst h
    have e : IntOp.cmpi CmpIPredicate.eq a a = 1#1 := by simp [IntOp.cmpi]
    rw [e, if_pos rfl]
    show (((BitVec.setWidth 32 1#1).toInt : ℝ) : EReal) = 1
    have : (BitVec.setWidth 32 1#1).toInt = 1 := by decide
    rw [this]; simp
  · have e : IntOp.cmpi CmpIPredicate.eq a b = 0#1 := by
      show BitVec.ofBool (a == b) = 0#1
      rw [beq_false_of_ne h]; rfl
    rw [e, if_neg h]
    show (((BitVec.setWidth 32 0#1).toInt : ℝ) : EReal) = 0
    have : (BitVec.setWidth 32 0#1).toInt = 0 := by decide
    rw [this]; simp

theorem pay2_at (v : IVec S1x5000 32) (g : BitVec 32) (x : Vec Ideal S5000x512 .f32) (w : Vec Ideal S64x512 .f32) (r : Fin 64) (d : Fin 512) :
    k0_pay2 (F := Ideal) v g x w (ix2 r d) = w (ix2 r d) + ∑ j : Fin 5000, hit (g + BitVec.ofNat 32 r.val) (v (ix2 0 j)) * x (ix2 j d) := by
  unfold k0_pay2 k0_pay1
  pointwise
  rfl

theorem pay3_at (v : IVec S1x5000 32) (g : BitVec 32) (w : Vec Ideal S64x1 .f32) (r : Fin 64) :
    k0_pay3 (F := Ideal) v g w (ix2 r 0) = w (ix2 r 0) + ∑ j : Fin 5000, hit (g + BitVec.ofNat 32 r.val) (v (ix2 0 j)) := by
  unfold k0_pay3 k0_pay1
  pointwise
  rfl

theorem pay5_at (v : IVec S1x5000 32) (x : Vec Ideal S5000x512 .f32) (w : Vec Ideal S512x512 .f32) (r : Fin 512) (d : Fin 512) :
    k0_pay5 (F := Ideal) v x w (ix2 r d) = w (ix2 r d) + ∑ j : Fin 5000, hit (BitVec.ofNat 32 r.val) (v (ix2 0 j)) * x (ix2 j d) := by
  unfold k0_pay5 k0_pay4
  pointwise
  rfl

theorem pay6_at (v : IVec S1x5000 32) (w : Vec Ideal S512x1 .f32) (r : Fin 512) :
    k0_pay6 (F := Ideal) v w (ix2 r 0) = w (ix2 r 0) + ∑ j : Fin 5000, hit (BitVec.ofNat 32 r.val) (v (ix2 0 j)) := by
  unfold k0_pay6 k0_pay4
  pointwise
  rfl

theorem pay9_at (v : IVec S1x5000 32) (g : BitVec 32) (x : Vec Ideal S5000x512 .f32) (X w : Vec Ideal S64x512 .f32) (r : Fin 64) (d : Fin 512) :
    k0_pay9 (F := Ideal) v g x X w (ix2 r d) = w (ix2 r d) + ∑ j : Fin 5000, hit (g + BitVec.ofNat 32 r.val) (v (ix2 0 j))
      * Ideal.logistic (∑ e : Fin 512, x (ix2 j e) * ∑ q : Fin 64, hit (g + BitVec.ofNat 32 q.val) (v (ix2 0 j)) * X (ix2 q e)) * x (ix2 j d) := by
  unfold k0_pay9
  pointwise
  rfl

theorem pay10_at (v : IVec S1x5000 32) (x : Vec Ideal S5000x512 .f32) (X w : Vec Ideal S512x512 .f32) (r : Fin 512) (d : Fin 512) :
    k0_pay10 (F := Ideal) v x X w (ix2 r d) = w (ix2 r d) + ∑ j : Fin 5000, hit (BitVec.ofNat 32 r.val) (v (ix2 0 j))
      * (Ideal.logistic (∑ e : Fin 512, x (ix2 j e) * ∑ q : Fin 512, hit (BitVec.ofNat 32 q.val) (v (ix2 0 j)) * X (ix2 q e)) * x (ix2 j d)) := by
  unfold k0_pay10
  pointwise
  rfl

theorem pay7_at (C : Vec Ideal S512x1 .f32) (S W : Vec Ideal S512x512 .f32) (b : Vec Ideal S1x512 .f32) (r : Fin 512) (d : Fin 512) :
    k0_pay7 (F := Ideal) C S W b (ix2 r d)
      = Ideal.tanh (∑ e : Fin 512, S (ix2 r e) * Ideal.div 1 (max (C (ix2 r 0)) 1) * W (ix2 d e) + b (ix2 0 d)) := by
  unfold k0_pay7
  pointwise

theorem pay8_at (r d : Fin 512) : k0_pay8 (F := Ideal) (ix2 r d) = 0 := by
  unfold k0_pay8
  pointwise

theorem pay12_at (r d : Fin 512) : k0_pay12 (F := Ideal) (ix2 r d) = 0 := by
  unfold k0_pay12
  pointwise

theorem pay13_at (r : Fin 512) (d : Fin 128) : k0_pay13 (F := Ideal) (ix2 r d) = 0 := by
  unfold k0_pay13
  pointwise

theorem pay11_at (x : IVec S1x1x5000 32) (j : Fin 5000) :
    k0_pay11 (F := Ideal) x (ix2 0 j) = x (ix3 0 0 j) := by
  unfold k0_pay11
  pointwise

end Cert.KernelIdeal.Seg
end
-- ==== Proof.Windows.lean ====
module
public import proofs.«01_k».proof.Proof.Payload
public import proofs.«01_k».proof.Proof.Base

/-! The 64-row windows read at an entry, and what the window of a block of sorted ids holds. -/

@[expose] public section
set_option maxRecDepth 16384
noncomputable section
namespace Cert.KernelIdeal.Seg
open Cert.KernelIdeal.Gen
open Idealize.ShloMosaic Idealize.ShloMosaic.Tactic

variable {F : FTy → Type} [FloatOps F]

theorem window64_at {a : BitVec 32} (h : Low a) (S : Vec F S512x512 .f32) (r : Fin 64) (d : Fin 512) :
    VecWindow.window (s := S512x512) S (off a) S64x512.size (inb64 h) (ix2 r d)
      = S (ix2 ⟨(base a).toNat + r.val, by have := r.isLt; have h' : (base a).toNat ≤ 448 := h; omega⟩ d) := by
  unfold VecWindow.window
  congr 1
  funext k
  apply Fin.ext
  fin_cases k
  · show (base a).toNat + 1 * r.val = _; rw [Nat.one_mul]; rfl
  · show 0 + 1 * d.val = d.val; omega

theorem window64c_at {a : BitVec 32} (h : Low a) (C : Vec F S512x128 .f32) (r : Fin 64) :
    VecWindow.window (s := S512x128) C (off a) S64x1.size (inb64c h) (ix2 r 0)
      = C (ix2 ⟨(base a).toNat + r.val, by have := r.isLt; have h' : (base a).toNat ≤ 448 := h; omega⟩ 0) := by
  unfold VecWindow.window
  congr 1
  funext k
  apply Fin.ext
  fin_cases k
  · show (base a).toNat + 1 * r.val = _; rw [Nat.one_mul]; rfl
  · rfl

theorem windowC_at (C : Vec F S512x128 .f32) (r : Fin 512) :
    VecWindow.window (s := S512x128) C ![0, 0] S512x1.size inb_S512x128_S512x1_0_0 (ix2 r 0) = C (ix2 r 0) := by
  unfold VecWindow.window
  congr 1
  funext k
  apply Fin.ext
  fin_cases k
  · show 0 + 1 * r.val = r.val; omega
  · rfl

theorem put64_in {a : BitVec 32} (S : Vec F S512x512 .f32) (w : Vec F S64x512 .f32) (g d : Fin 512) (r : Fin 64) (e : g.val = (base a).toNat + r.val) :
    VecWindow.put (s := S512x512) S (off a) S64x512.size w (ix2 g d) = w (ix2 r d) := by
  unfold VecWindow.put
  have h : ∀ k : Fin 2, off a k ≤ (ix2 g d k).val ∧ (ix2 g d k).val < off a k + S64x512.size k := fun k => by
    fin_cases k
    · show (base a).toNat ≤ g.val ∧ g.val < (base a).toNat + 64
      have := r.isLt; omega
    · show 0 ≤ d.val ∧ d.val < 0 + 512
      have := d.isLt; omega
  refine (dif_pos h).trans ?_
  congr 1
  funext k
  apply Fin.ext
  fin_cases k
  · show g.val - (base a).toNat = r.val; omega
  · show d.val - 0 = d.val; omega

theorem put64_out {a : BitVec 32} (S : Vec F S512x512 .f32) (w : Vec F S64x512 .f32) (g d : Fin 512)
    (e : ¬ ((base a).toNat ≤ g.val ∧ g.val < (base a).toNat + 64)) :
    VecWindow.put (s := S512x512) S (off a) S64x512.size w (ix2 g d) = S (ix2 g d) := by
  unfold VecWindow.put
  exact dif_neg fun h => e (h 0)

theorem put64c_in {a : BitVec 32} (C : Vec F S512x128 .f32) (w : Vec F S64x1 .f32) (g : Fin 512) (r : Fin 64) (e : g.val = (base a).toNat + r.val) :
    VecWindow.put (s := S512x128) C (off a) S64x1.size w (ix2 g 0) = w (ix2 r 0) := by
  unfold VecWindow.put
  have h : ∀ k : Fin 2, off a k ≤ (ix2 g (0 : Fin 128) k).val ∧ (ix2 g (0 : Fin 128) k).val < off a k + S64x1.size k := fun k => by
    fin_cases k
    · show (base a).toNat ≤ g.val ∧ g.val < (base a).toNat + 64
      have := r.isLt; omega
    · show 0 ≤ 0 ∧ 0 < 0 + 1
      omega
  refine (dif_pos h).trans ?_
  congr 1
  funext k
  apply Fin.ext
  fin_cases k
  · show g.val - (base a).toNat = r.val; omega
  · rfl

theorem put64c_out {a : BitVec 32} (C : Vec F S512x128 .f32) (w : Vec F S64x1 .f32) (g : Fin 512)
    (e : ¬ ((base a).toNat ≤ g.val ∧ g.val < (base a).toNat + 64)) :
    VecWindow.put (s := S512x128) C (off a) S64x1.size w (ix2 g 0) = C (ix2 g 0) := by
  unfold VecWindow.put
  exact dif_neg fun h => e (h 0)

theorem putC_at (C : Vec F S512x128 .f32) (w : Vec F S512x1 .f32) (g : Fin 512) :
    VecWindow.put (s := S512x128) C ![0, 0] S512x1.size w (ix2 g 0) = w (ix2 g 0) := by
  unfold VecWindow.put
  have h : ∀ k : Fin 2, (![0, 0] : Fin 2 → ℕ) k ≤ (ix2 g (0 : Fin 128) k).val ∧ (ix2 g (0 : Fin 128) k).val < (![0, 0] : Fin 2 → ℕ) k + S512x1.size k := fun k => by
    fin_cases k
    · show 0 ≤ g.val ∧ g.val < 0 + 512
      have := g.isLt; omega
    · show 0 ≤ 0 ∧ 0 < 0 + 1
      omega
  refine (dif_pos h).trans ?_
  congr 1
  funext k
  apply Fin.ext
  fin_cases k
  · show g.val - 0 = g.val; omega
  · rfl

/-- A block that fits ends before the window does. -/
theorem fits_lt (a b : BitVec 32) (ha : a.toNat < 2 ^ 31) (hb : b.toNat < 2 ^ 31) (h : fits a b = 1#1) : b.toNat < (base a).toNat + 64 := by
  have hl := (base_le a ha).2
  unfold fits at h
  generalize base a = w at h hl ⊢
  have e : (Scalar.addi w 64#32).toNat = w.toNat + 64 := by
    show (w + 64#32).toNat = _
    rw [BitVec.toNat_add]
    show (w.toNat + 64) % 2 ^ 32 = _
    exact Nat.mod_eq_of_lt (by omega)
  generalize Scalar.addi w 64#32 = u at h e
  word_omega

end Cert.KernelIdeal.Seg
end
-- ==== Proof.Step.lean ====
module
public import proofs.«01_k».proof.Proof.Payload
public import proofs.«01_k».proof.Proof.Windows

/-! What one point adds, entry by entry: whether the block goes through the window or through all rows, each row of a
    graph gains the sum over that graph's nodes in the block. -/

@[expose] public section
set_option maxRecDepth 16384
noncomputable section
namespace Cert.KernelIdeal.Seg
open Cert.KernelIdeal.Gen
open Idealize.ShloMosaic Idealize.ShloMosaic.Tactic

/-- The words of a block lie between its first word `a` and its last word `b`, none negative. -/
structure Within (a b : BitVec 32) (v : IVec S1x5000 32) : Prop where
  /-- the first is not negative -/
  a_lt : a.toNat < 2 ^ 31
  /-- the last is not negative -/
  b_lt : b.toNat < 2 ^ 31
  /-- the first is least -/
  ge : ∀ j : Fin 5000, a.toNat ≤ (v (ix2 0 j)).toNat
  /-- the last is greatest -/
  le : ∀ j : Fin 5000, (v (ix2 0 j)).toNat ≤ b.toNat

/-- The sum of a quantity over the nodes of a block that belong to graph `g`. -/
def blkSum (v : IVec S1x5000 32) (y : Fin 5000 → EReal) (g : ℕ) : EReal := ∑ j : Fin 5000, if (v (ix2 0 j)).toNat = g then y j else 0

theorem hit_full (r : Fin 512) (w : BitVec 32) : hit (BitVec.ofNat 32 r.val) w = if w.toNat = r.val then 1 else 0 := by
  rw [hit_eq]
  have hr : (BitVec.ofNat 32 r.val).toNat = r.val := by
    rw [BitVec.toNat_ofNat]; have := r.isLt; exact Nat.mod_eq_of_lt (by omega)
  have e : BitVec.ofNat 32 r.val = w ↔ w.toNat = r.val := by
    rw [← BitVec.toNat_inj, hr, eq_comm]
  simp only [e]

theorem hit_base {a : BitVec 32} (ha : (base a).toNat ≤ 448) (r : Fin 64) (w : BitVec 32) :
    hit (base a + BitVec.ofNat 32 r.val) w = if w.toNat = (base a).toNat + r.val then 1 else 0 := by
  rw [hit_eq]
  have hr : (base a + BitVec.ofNat 32 r.val).toNat = (base a).toNat + r.val := by
    have := r.isLt
    rw [BitVec.toNat_add, BitVec.toNat_ofNat, Nat.mod_eq_of_lt (show r.val < 2 ^ 32 by omega)]
    exact Nat.mod_eq_of_lt (by omega)
  have e : base a + BitVec.ofNat 32 r.val = w ↔ w.toNat = (base a).toNat + r.val := by
    rw [← BitVec.toNat_inj, hr, eq_comm]
  simp only [e]

/-- A one-hot row of the window picks the word's own row. -/
theorem pick_base {a : BitVec 32} (ha : (base a).toNat ≤ 448) (w : BitVec 32) (h1 : (base a).toNat ≤ w.toNat) (h2 : w.toNat < (base a).toNat + 64)
    (K : ℕ → EReal) : ∑ q : Fin 64, hit (base a + BitVec.ofNat 32 q.val) w * K ((base a).toNat + q.val) = K w.toNat := by
  simp only [hit_base ha]
  rw [Finset.sum_eq_single (⟨w.toNat - (base a).toNat, by omega⟩ : Fin 64)]
  · have e : w.toNat = (base a).toNat + (w.toNat - (base a).toNat) := by omega
    rw [if_pos e, one_mul, ← e]
  · intro q _ hq
    rw [if_neg, zero_mul]
    intro e
    exact hq (Fin.ext (by show q.val = w.toNat - (base a).toNat; omega))
  · intro h; exact absurd (Finset.mem_univ _) h

/-- A one-hot row over all graphs picks the word's own row. -/
theorem pick_full (w : BitVec 32) (h : w.toNat < 512) (K : ℕ → EReal) :
    ∑ q : Fin 512, hit (BitVec.ofNat 32 q.val) w * K q.val = K w.toNat := by
  simp only [hit_full]
  rw [Finset.sum_eq_single (⟨w.toNat, h⟩ : Fin 512)]
  · rw [if_pos rfl, one_mul]
  · intro q _ hq
    rw [if_neg, zero_mul]
    intro e
    exact hq (Fin.ext e.symm)
  · intro h; exact absurd (Finset.mem_univ _) h

theorem ite_mul_eq (p : Prop) [Decidable p] (y : EReal) : (if p then (1 : EReal) else 0) * y = if p then y else 0 := by
  by_cases h : p
  · rw [if_pos h, if_pos h, one_mul]
  · rw [if_neg h, if_neg h, zero_mul]

section
variable {a b : BitVec 32} {v : IVec S1x5000 32} (H : Within a b v)
include H

theorem Within.low : Low a := (base_le a H.a_lt).2

theorem Within.base_le_v (j : Fin 5000) : (base a).toNat ≤ (v (ix2 0 j)).toNat := le_trans (base_le a H.a_lt).1 (H.ge j)

theorem Within.v_lt_base (h : fits a b = 1#1) (j : Fin 5000) : (v (ix2 0 j)).toNat < (base a).toNat + 64 :=
  lt_of_le_of_lt (H.le j) (fits_lt a b H.a_lt H.b_lt h)

/-- Outside the window a block that fits has no node. -/
theorem Within.blkSum_out (h : fits a b = 1#1) (y : Fin 5000 → EReal) (g : ℕ) (e : ¬ ((base a).toNat ≤ g ∧ g < (base a).toNat + 64)) :
    blkSum v y g = 0 := by
  unfold blkSum
  refine Finset.sum_eq_zero fun j _ => if_neg fun q => e ?_
  rw [← q]
  exact ⟨H.base_le_v j, H.v_lt_base h j⟩

theorem addSum_at (x : Vec Ideal S5000x512 .f32) (S : Vec Ideal S512x512 .f32) (g d : Fin 512) :
    addSum (fits a b) a v x S (ix2 g d) = S (ix2 g d) + blkSum v (fun j => x (ix2 j d)) g.val := by
  have hl := H.low
  have hl' : (base a).toNat ≤ 448 := hl
  unfold addSum
  by_cases hf : fits a b = 1#1
  · rw [if_pos hf, dif_pos hl]
    by_cases e : (base a).toNat ≤ g.val ∧ g.val < (base a).toNat + 64
    · have er : g.val = (base a).toNat + (⟨g.val - (base a).toNat, by omega⟩ : Fin 64).val := by
        show g.val = (base a).toNat + (g.val - (base a).toNat); omega
      rw [put64_in S _ g d _ er, pay2_at, window64_at hl]
      refine congrArg₂ (· + ·) (congrArg (fun k => S (ix2 k d)) (Fin.ext er.symm)) ?_
      unfold blkSum
      refine Finset.sum_congr rfl fun j _ => ?_
      rw [hit_base hl', ← er, ite_mul_eq]
    · rw [put64_out S _ g d e, H.blkSum_out hf _ _ e, add_zero]
  · rw [if_neg hf, pay5_at]
    refine congrArg _ (Finset.sum_congr rfl fun j _ => ?_)
    rw [hit_full, ite_mul_eq]

theorem addCnt_at (C : Vec Ideal S512x128 .f32) (g : Fin 512) :
    addCnt (fits a b) a v C (ix2 g 0) = C (ix2 g 0) + blkSum v (fun _ => 1) g.val := by
  have hl := H.low
  have hl' : (base a).toNat ≤ 448 := hl
  unfold addCnt
  by_cases hf : fits a b = 1#1
  · rw [if_pos hf, dif_pos hl]
    by_cases e : (base a).toNat ≤ g.val ∧ g.val < (base a).toNat + 64
    · have er : g.val = (base a).toNat + (⟨g.val - (base a).toNat, by omega⟩ : Fin 64).val := by
        show g.val = (base a).toNat + (g.val - (base a).toNat); omega
      rw [put64c_in C _ g _ er, pay3_at, window64c_at hl]
      refine congrArg₂ (· + ·) (congrArg (fun k => C (ix2 k 0)) (Fin.ext er.symm)) ?_
      unfold blkSum
      refine Finset.sum_congr rfl fun j _ => ?_
      rw [hit_base hl', ← er]
    · rw [put64c_out C _ g e, H.blkSum_out hf _ _ e, add_zero]
  · rw [if_neg hf, putC_at, pay6_at, windowC_at]
    refine congrArg _ (Finset.sum_congr rfl fun j _ => ?_)
    rw [hit_full]

/-- The output gains the scored features, the context read at each node's own graph. -/
theorem addOut_at (x : Vec Ideal S5000x512 .f32) (X o : Vec Ideal S512x512 .f32) (K : ℕ → Fin 512 → EReal) (hX : ∀ g d, X (ix2 g d) = K g.val d) (g d : Fin 512) :
    addOut (fits a b) a v x X o (ix2 g d) = o (ix2 g d)
      + blkSum v (fun j => Ideal.logistic (∑ e : Fin 512, x (ix2 j e) * K (v (ix2 0 j)).toNat e) * x (ix2 j d)) g.val := by
  have hl := H.low
  have hl' : (base a).toNat ≤ 448 := hl
  unfold addOut
  by_cases hf : fits a b = 1#1
  · rw [if_pos hf, dif_pos hl]
    by_cases e : (base a).toNat ≤ g.val ∧ g.val < (base a).toNat + 64
    · have er : g.val = (base a).toNat + (⟨g.val - (base a).toNat, by omega⟩ : Fin 64).val := by
        show g.val = (base a).toNat + (g.val - (base a).toNat); omega
      rw [put64_in o _ g d _ er, pay9_at, window64_at hl]
      refine congrArg₂ (· + ·) (congrArg (fun k => o (ix2 k d)) (Fin.ext er.symm)) ?_
      unfold blkSum
      refine Finset.sum_congr rfl fun j _ => ?_
      have pk : ∀ k : Fin 512, ∑ q : Fin 64, hit (base a + BitVec.ofNat 32 q.val) (v (ix2 0 j))
          * VecWindow.window (s := S512x512) X (off a) S64x512.size (inb64 hl) (ix2 q k) = K (v (ix2 0 j)).toNat k := fun k => by
        rw [← pick_base hl' (v (ix2 0 j)) (H.base_le_v j) (H.v_lt_base hf j) (fun n => K n k)]
        refine Finset.sum_congr rfl fun q _ => ?_
        rw [window64_at hl, hX]
      rw [hit_base hl', ← er]
      simp only [pk]
      rw [mul_assoc, ite_mul_eq]
    · rw [put64_out o _ g d e, H.blkSum_out hf _ _ e, add_zero]
  · rw [if_neg hf, pay10_at]
    refine congrArg _ (Finset.sum_congr rfl fun j _ => ?_)
    rw [hit_full, ite_mul_eq]
    by_cases q : (v (ix2 0 j)).toNat = g.val
    · have pk : ∀ k : Fin 512, ∑ q : Fin 512, hit (BitVec.ofNat 32 q.val) (v (ix2 0 j)) * X (ix2 q k) = K (v (ix2 0 j)).toNat k := fun k => by
        rw [← pick_full (v (ix2 0 j)) (q ▸ g.isLt) (fun n => K n k)]
        refine Finset.sum_congr rfl fun q _ => ?_
        rw [hX]
      simp only [pk]
    · rw [if_neg q, if_neg q]

end

end Cert.KernelIdeal.Seg
end
-- ==== Proof.Spec.lean ====
module
public import Idealize.ShloMosaic.Lib.Pointwise
public import Idealize.ShloMosaic.PureOps.Ideal.Laws

/-! What both programs compute, as plain sums over the nodes: the count and the sum of every graph, the context that
    they give, each node's score, and the scored sum of every graph. Also the sum over the nodes of the first blocks. -/

@[expose] public section
set_option maxRecDepth 16384
noncomputable section
namespace Cert.Spec
open Idealize.ShloMosaic

/-- The batch ids, the node features, the weights and the bias. -/
abbrev Ids := IVec (⟨1, ![100000]⟩ : Shape) 32
abbrev Feats := FVec Ideal (⟨2, ![100000, 512]⟩ : Shape) .f32
abbrev Mat := FVec Ideal (⟨2, ![512, 512]⟩ : Shape) .f32
abbrev Bias := FVec Ideal (⟨1, ![512]⟩ : Shape) .f32

/-- A node's value where the node belongs to graph `g`, else zero. -/
def inSeg (B : Ids) (g : ℕ) (y : Fin 100000 → EReal) (n : Fin 100000) : EReal := if (B (ix1 n)).toNat = g then y n else 0

/-- The sum of a node quantity over graph `g`. -/
def seg (B : Ids) (g : ℕ) (y : Fin 100000 → EReal) : EReal := ∑ n : Fin 100000, inSeg B g y n

/-- The number of nodes of graph `g`. -/
def cnt (B : Ids) (g : ℕ) : EReal := seg B g fun _ => 1

/-- The sum of the features of graph `g`. -/
def total (B : Ids) (X : Feats) (g : ℕ) (d : Fin 512) : EReal := seg B g fun n => X (ix2 n d)

/-- The context of graph `g`. -/
def ctx (B : Ids) (X : Feats) (W : Mat) (b : Bias) (g : ℕ) (d : Fin 512) : EReal :=
  Ideal.tanh (∑ e : Fin 512, total B X g e * Ideal.div 1 (max (cnt B g) 1) * W (ix2 d e) + b (ix1 d))

/-- The score of a node. -/
def score (B : Ids) (X : Feats) (W : Mat) (b : Bias) (n : Fin 100000) : EReal :=
  Ideal.logistic (∑ e : Fin 512, X (ix2 n e) * ctx B X W b (B (ix1 n)).toNat e)

/-- The result: the scored features summed over graph `g`. -/
def out (B : Ids) (X : Feats) (W : Mat) (b : Bias) (g : ℕ) (d : Fin 512) : EReal :=
  seg B g fun n => score B X W b n * X (ix2 n d)

/-- The sum over the nodes of the first `k` blocks of 5000. -/
def part (f : Fin 100000 → EReal) (k : ℕ) : EReal := ∑ n ∈ Finset.range (5000 * k), if h : n < 100000 then f ⟨n, h⟩ else 0

theorem part_zero (f : Fin 100000 → EReal) : part f 0 = 0 := by
  unfold part; simp

theorem sum_range_block (a b : ℕ) (F : ℕ → EReal) : ∑ n ∈ Finset.range (a + b), F n = ∑ n ∈ Finset.range a, F n + ∑ j : Fin b, F (a + j.val) := by
  rw [Finset.sum_range_add, Finset.sum_range (n := b)]

theorem part_succ (f : Fin 100000 → EReal) (k : ℕ) (hk : k < 20) :
    part f (k + 1) = part f k + ∑ j : Fin 5000, f ⟨5000 * k + j.val, by have := j.isLt; omega⟩ := by
  unfold part
  rw [Nat.mul_succ, sum_range_block]
  have hj : ∀ j : Fin 5000, 5000 * k + j.val < 100000 := fun j => by have := j.isLt; omega
  have e : ∀ j : Fin 5000, (if h : 5000 * k + j.val < 100000 then f ⟨5000 * k + j.val, h⟩ else 0) = f ⟨5000 * k + j.val, hj j⟩ := fun j => dif_pos (hj j)
  rw [Finset.sum_congr (rfl : (Finset.univ : Finset (Fin 5000)) = Finset.univ) fun j _ => e j]

theorem part_all (f : Fin 100000 → EReal) : part f 20 = ∑ n : Fin 100000, f n := by
  have e : 5000 * 20 = 100000 := by omega
  unfold part
  rw [e, Finset.sum_range]
  exact Finset.sum_congr rfl fun j _ => dif_pos j.isLt

/-- One over a maximum with one times a number is the quotient. -/
theorem mul_div_one (s c : EReal) : s * Ideal.div 1 (max c 1) = Ideal.div s (max c 1) := by
  have h : max c 1 ≠ 0 := fun e => by
    have h1 : (1 : EReal) ≤ max c 1 := le_max_right _ _
    rw [e] at h1
    exact absurd h1 (by simp)
  rw [Ideal.div, Ideal.div, if_neg h, if_neg h, one_mul]

end Cert.Spec
end
-- ==== Proof.Value.lean ====
module
public import proofs.«01_k».proof.Proof.Step
public import proofs.«01_k».proof.Proof.Spec
public import proofs.«01_k».proof.Proof.Blocks
public import proofs.«01_k».proof.Proof.Pre

/-! The contents after every point, as sums over the nodes of the blocks seen so far; after the last point the output
    is the scored sum of every graph. -/

@[expose] public section
set_option maxRecDepth 16384
noncomputable section
namespace Cert.KernelIdeal.Seg
open Cert.KernelIdeal.Gen
open Idealize.ShloMosaic Idealize.ShloMosaic.TcCoe
open Cert.Spec (Ids Feats Mat Bias part inSeg seg)

variable (m : (ℓ : Loc nD τ sig) → Buf (Elt Ideal) ℓ) (c : Dev nD)

/-- The arguments. -/
abbrev argX : Feats := m ((c : Thread nD τ).loc main_arg0)
abbrev argB : Ids := m ((c : Thread nD τ).loc main_arg1)
abbrev argW : Mat := m ((c : Thread nD τ).loc main_arg2)
abbrev argb : Bias := m ((c : Thread nD τ).loc main_arg3)

theorem word_at (t : Fin cfg0.N) (j : Fin 5000) : k0_pay11 (F := Ideal) (blk2 m c t) (ix2 0 j) = argB m c (ix1 (nodeOf t j)) := by
  rw [pay11_at, blk2_at]

theorem within (h : Sorted (argB m c)) (t : Fin cfg0.N) :
    Within (lo (grid0.coords t) (blk0 m c t)) (hi (grid0.coords t) (blk0 m c t)) (k0_pay11 (F := Ideal) (blk2 m c t)) where
  a_lt := by rw [lo_eq]; exact h.lt _
  b_lt := by rw [hi_eq]; exact h.lt _
  ge j := by
    rw [lo_eq, word_at]
    refine h.mono _ _ ?_
    show 5000 * (t.val % 20) + 0 ≤ 5000 * (t.val % 20) + j.val
    omega
  le j := by
    rw [hi_eq, word_at]
    refine h.mono _ _ ?_
    show 5000 * (t.val % 20) + j.val ≤ 5000 * (t.val % 20) + 4999
    have := j.isLt
    omega

/-- Over the first blocks, one more block adds its own sum. -/
theorem part_blk (t : Fin cfg0.N) (k : ℕ) (hk : t.val % 20 = k) (y : Fin 100000 → EReal) (y' : Fin 5000 → EReal) (hy : ∀ j, y' j = y (nodeOf t j)) (g : ℕ) :
    part (inSeg (argB m c) g y) k + blkSum (k0_pay11 (F := Ideal) (blk2 m c t)) y' g = part (inSeg (argB m c) g y) (k + 1) := by
  subst hk
  rw [Cert.Spec.part_succ _ _ (Nat.mod_lt _ (by omega))]
  refine congrArg _ ?_
  unfold blkSum
  refine Finset.sum_congr rfl fun j _ => ?_
  rw [word_at, hy]
  rfl

/-- The first phase: sums and counts over the blocks seen. -/
theorem phase0 (h : Sorted (argB m c)) (n : ℕ) (hn : n ≤ 20) :
    (∀ g d : Fin 512, (stAt m c n).S (ix2 g d) = part (inSeg (argB m c) g.val fun k => argX m c (ix2 k d)) n)
      ∧ ∀ g : Fin 512, (stAt m c n).C (ix2 g 0) = part (inSeg (argB m c) g.val fun _ => 1) n := by
  induction n with
  | zero =>
    constructor
    · intro g d
      rw [Cert.Spec.part_zero]; exact pay12_at g d
    · intro g
      rw [Cert.Spec.part_zero]; exact pay13_at g 0
  | succ n ih =>
    obtain ⟨ihS, ihC⟩ := ih (by omega)
    have hN : n < cfg0.N := by rw [show cfg0.N = 40 from N_0]; omega
    have hs := stAt_succ m c ⟨n, hN⟩
    have h0 : (grid0.coords (⟨n, hN⟩ : Fin cfg0.N) 0).val = 0 := by rw [coord0]; show n / 20 % 2 = 0; omega
    have h1 : (grid0.coords (⟨n, hN⟩ : Fin cfg0.N) 1).val = n := by rw [coord1]; show n / 1 % 20 = n; omega
    have hk : (⟨n, hN⟩ : Fin cfg0.N).val % 20 = n := by show n % 20 = n; omega
    have W := within m c h ⟨n, hN⟩
    have rS : ∀ g d : Fin 512, (if (grid0.coords (⟨n, hN⟩ : Fin cfg0.N) 1).val = 0 then k0_pay12 (F := Ideal) else (stAt m c n).S) (ix2 g d) = (stAt m c n).S (ix2 g d) := fun g d => by
      rw [h1]
      by_cases e : n = 0
      · subst e; rw [if_pos rfl]; rfl
      · rw [if_neg e]
    have rC : ∀ g : Fin 512, (if (grid0.coords (⟨n, hN⟩ : Fin cfg0.N) 1).val = 0 then k0_pay13 (F := Ideal) else (stAt m c n).C) (ix2 g 0) = (stAt m c n).C (ix2 g 0) := fun g => by
      rw [h1]
      by_cases e : n = 0
      · subst e; rw [if_pos rfl]; rfl
      · rw [if_neg e]
    constructor
    · intro g d
      refine (congrArg (fun s : St Ideal => s.S (ix2 g d)) hs).trans ?_
      show stepS _ _ _ _ _ (ix2 g d) = _
      unfold stepS
      rw [if_pos h0, addSum_at W, rS, ihS]
      exact part_blk m c ⟨n, hN⟩ n hk _ _ (fun j => blk1_at m c _ j d) g.val
    · intro g
      refine (congrArg (fun s : St Ideal => s.C (ix2 g 0)) hs).trans ?_
      show stepC _ _ _ _ (ix2 g 0) = _
      unfold stepC
      rw [if_pos h0, addCnt_at W, rC, ihC]
      exact part_blk m c ⟨n, hN⟩ n hk _ _ (fun j => rfl) g.val

/-- The second phase: sums and counts stay whole, the context is every graph's, the output is the scored sum over the
    blocks seen. -/
theorem phase1 (h : Sorted (argB m c)) (n : ℕ) (hn : n ≤ 20) :
    (stAt m c (20 + n)).S = (stAt m c 20).S ∧ (stAt m c (20 + n)).C = (stAt m c 20).C
      ∧ (0 < n → ∀ g d : Fin 512, (stAt m c (20 + n)).X (ix2 g d) = Spec.ctx (argB m c) (argX m c) (argW m c) (argb m c) g.val d)
      ∧ (0 < n → ∀ g d : Fin 512, (stAt m c (20 + n)).o (ix2 g d)
        = part (inSeg (argB m c) g.val fun k => Spec.score (argB m c) (argX m c) (argW m c) (argb m c) k * argX m c (ix2 k d)) n) := by
  induction n with
  | zero => exact ⟨rfl, rfl, fun h => absurd h (lt_irrefl 0), fun h => absurd h (lt_irrefl 0)⟩
  | succ n ih =>
    obtain ⟨ihS, ihC, ihX, ihO⟩ := ih (by omega)
    have hN : 20 + n < cfg0.N := by rw [show cfg0.N = 40 from N_0]; omega
    have hs : stAt m c (20 + (n + 1)) = stepAt m c ⟨20 + n, hN⟩ (stAt m c (20 + n)) := stAt_succ m c ⟨20 + n, hN⟩
    have h0 : ¬ (grid0.coords (⟨20 + n, hN⟩ : Fin cfg0.N) 0).val = 0 := by rw [coord0]; show ¬ (20 + n) / 20 % 2 = 0; omega
    have h1 : (grid0.coords (⟨20 + n, hN⟩ : Fin cfg0.N) 1).val = n := by rw [coord1]; show (20 + n) / 1 % 20 = n; omega
    have hk : (⟨20 + n, hN⟩ : Fin cfg0.N).val % 20 = n := by show (20 + n) % 20 = n; omega
    have W := within m c h ⟨20 + n, hN⟩
    obtain ⟨fS, fC⟩ := phase0 m c h 20 (le_refl _)
    have hX : ∀ g d : Fin 512, stepX (grid0.coords (⟨20 + n, hN⟩ : Fin cfg0.N)) (blk3 m c ⟨20 + n, hN⟩) (blk4 m c ⟨20 + n, hN⟩)
        (stAt m c (20 + n)).S (stAt m c (20 + n)).C (stAt m c (20 + n)).X (ix2 g d)
          = Spec.ctx (argB m c) (argX m c) (argW m c) (argb m c) g.val d := fun g d => by
      unfold stepX
      rw [if_neg h0, h1]
      by_cases e : n = 0
      · rw [if_pos e, ihS, ihC]
        unfold ctxOf
        rw [pay7_at, windowC_at, fC, blk3_at, blk4_at, Cert.Spec.part_all]
        unfold Spec.ctx
        refine congrArg (fun s => Ideal.tanh (s + argb m c (ix1 d))) (Finset.sum_congr rfl fun k _ => ?_)
        rw [fS, Cert.Spec.part_all]
        rfl
      · rw [if_neg e]
        exact ihX (by omega) g d
    have rO : ∀ g d : Fin 512, (if (grid0.coords (⟨20 + n, hN⟩ : Fin cfg0.N) 1).val = 0 then k0_pay8 (F := Ideal) else (stAt m c (20 + n)).o) (ix2 g d)
        = part (inSeg (argB m c) g.val fun k => Spec.score (argB m c) (argX m c) (argW m c) (argb m c) k * argX m c (ix2 k d)) n := fun g d => by
      rw [h1]
      by_cases e : n = 0
      · rw [if_pos e, e, Cert.Spec.part_zero]; exact pay8_at g d
      · rw [if_neg e]; exact ihO (by omega) g d
    rw [hs]
    refine ⟨?_, ?_, fun _ g d => hX g d, fun _ g d => ?_⟩
    · show stepS _ _ _ _ _ = _
      unfold stepS
      rw [if_neg h0, ihS]
    · show stepC _ _ _ _ = _
      unfold stepC
      rw [if_neg h0, ihC]
    · show stepO _ _ _ _ _ _ _ _ _ _ (ix2 g d) = _
      unfold stepO
      rw [if_neg h0, addOut_at W _ _ _ _ hX, rO]
      refine part_blk m c ⟨20 + n, hN⟩ n hk _ _ (fun j => ?_) g.val
      unfold Spec.score
      rw [word_at, blk1_at]
      refine congrArg (fun s => Ideal.logistic s * _) (Finset.sum_congr rfl fun e _ => ?_)
      rw [blk1_at]

/-- The kernel's result. -/
theorem result_at (h : Sorted (argB m c)) (g d : Fin 512) :
    (stAt m c 40).o (ix2 g d) = Spec.out (argB m c) (argX m c) (argW m c) (argb m c) g.val d := by
  rw [(phase1 m c h 20 (le_refl _)).2.2.2 (by omega) g d, Cert.Spec.part_all]
  rfl

end Cert.KernelIdeal.Seg
end
-- ==== Proof.Scatter.lean ====
module
public import Idealize.ShloMosaic.Lib.Pointwise
public import Idealize.ShloMosaic.PureOps.Ideal.Laws

/-! An accumulating scatter of rows (or of single numbers) at one index per update, at the ideal floats: each entry
    of the result is the old entry plus the sum of the updates whose index names its row. -/

@[expose] public section
noncomputable section
namespace Cert.Scatter
open Idealize.ShloMosaic

variable {N G D : ℕ}

/-- Rows of an `[N, D]` array added into an `[G, D]` array. -/
abbrev rowsDims (wf : ScatterDims.WF ⟨2, ![G, D]⟩ ⟨2, ![N, 1]⟩ ⟨2, ![N, D]⟩ [1] [0] [0] 1) :
    ScatterDims ⟨2, ![G, D]⟩ ⟨2, ![N, 1]⟩ ⟨2, ![N, D]⟩ where
  updateWindowDims := [1]
  insertedWindowDims := [0]
  scatterDimsToOperandDims := [0]
  indexVectorDim := 1
  wf := wf

/-- Numbers of an `[N]` array added into a `[G]` array. -/
abbrev numsDims (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

variable (idx : IVec (⟨2, ![N, 1]⟩ : Shape) 32)

theorem rows_start (wf : ScatterDims.WF ⟨2, ![G, D]⟩ ⟨2, ![N, 1]⟩ ⟨2, ![N, D]⟩ [1] [0] [0] 1) (n : Fin N) (e : Fin D) :
    (rowsDims wf).start (ix2 n e) idx 0 = (idx (ix2 n 0)).toInt := by
  unfold ScatterDims.start
  rw [dif_pos (show (0 : Fin 2) ∈ (rowsDims wf).scatterDimsToOperandDims from List.mem_singleton.mpr rfl)]
  congr 2
  funext b; refine Fin.ext ?_
  match b with
  | ⟨0, _⟩ => rfl
  | ⟨1, _⟩ => rfl

theorem rows_window (wf : ScatterDims.WF ⟨2, ![G, D]⟩ ⟨2, ![N, 1]⟩ ⟨2, ![N, D]⟩ [1] [0] [0] 1) (n : Fin N) (e : Fin D) :
    (rowsDims wf).window (ix2 n e) 0 = 0 := by
  unfold ScatterDims.window
  exact dif_neg (fun h => by simp [ScatterDims.sKept, Shape.kept] at h)

/-- An update whose index names no row is dropped. -/
theorem rows_miss (wf : ScatterDims.WF ⟨2, ![G, D]⟩ ⟨2, ![N, 1]⟩ ⟨2, ![N, D]⟩ [1] [0] [0] 1) (n : Fin N) (e : Fin D) (h : (G : ℤ) ≤ (idx (ix2 n 0)).toInt) :
    (rowsDims wf).resultIdx? (ix2 n e) idx = none := by
  unfold ScatterDims.resultIdx?
  refine dif_neg fun hall => ?_
  have h0 : (rowsDims wf).start (ix2 n e) idx 0 + (rowsDims wf).window (ix2 n e) 0 < (G : ℤ) := (hall 0).2
  rw [rows_start, rows_window] at h0
  omega

theorem rows_lands (wf : ScatterDims.WF ⟨2, ![G, D]⟩ ⟨2, ![N, 1]⟩ ⟨2, ![N, D]⟩ [1] [0] [0] 1) (n : Fin N) (e : Fin D) (g : Fin G)
    (h : (idx (ix2 n 0)).toInt = g.val) :
    (rowsDims wf).resultIdx? (ix2 n e) idx = some (ix2 g e) := by
  have s0 : (rowsDims wf).start (ix2 n e) idx 0 = g.val := (rows_start idx wf n e).trans h
  have s1 : (rowsDims wf).start (ix2 n e) idx 1 = 0 := by
    unfold ScatterDims.start
    exact dif_neg (fun h => by simp at h)
  have w0 : (rowsDims wf).window (ix2 n e) 0 = 0 := rows_window wf n e
  have w1 : (rowsDims wf).window (ix2 n e) 1 = e.val := by
    unfold ScatterDims.window
    rw [dif_pos (show (1 : Fin 2) ∈ (rowsDims wf).sKept by simp [ScatterDims.sKept, Shape.kept])]
    rfl
  unfold ScatterDims.resultIdx?
  have hall : ∀ a : Fin 2, 0 ≤ (rowsDims wf).start (ix2 n e) idx a + (rowsDims wf).window (ix2 n e) a
      ∧ (rowsDims wf).start (ix2 n e) idx a + (rowsDims wf).window (ix2 n e) a < (⟨2, ![G, D]⟩ : Shape).size a := fun a => by
    match a with
    | ⟨0, _⟩ =>
      show 0 ≤ (rowsDims wf).start (ix2 n e) idx 0 + (rowsDims wf).window (ix2 n e) 0 ∧ (rowsDims wf).start (ix2 n e) idx 0 + (rowsDims wf).window (ix2 n e) 0 < (G : ℤ)
      rw [s0, w0]; have := g.isLt; omega
    | ⟨1, _⟩ =>
      show 0 ≤ (rowsDims wf).start (ix2 n e) idx 1 + (rowsDims wf).window (ix2 n e) 1 ∧ (rowsDims wf).start (ix2 n e) idx 1 + (rowsDims wf).window (ix2 n e) 1 < (D : ℤ)
      rw [s1, w1]; have := e.isLt; omega
  rw [dif_pos hall]
  refine congrArg some (funext fun a => Fin.ext ?_)
  match a with
  | ⟨0, _⟩ =>
    show ((rowsDims wf).start (ix2 n e) idx 0 + (rowsDims wf).window (ix2 n e) 0).toNat = g.val
    rw [s0, w0]; omega
  | ⟨1, _⟩ =>
    show ((rowsDims wf).start (ix2 n e) idx 1 + (rowsDims wf).window (ix2 n e) 1).toNat = e.val
    rw [s1, w1]; omega

theorem nums_start (wf : ScatterDims.WF ⟨1, ![G]⟩ ⟨2, ![N, 1]⟩ ⟨1, ![N]⟩ [] [0] [0] 1) (n : Fin N) :
    (numsDims wf).start (ix1 n) idx 0 = (idx (ix2 n 0)).toInt := by
  unfold ScatterDims.start
  rw [dif_pos (show (0 : Fin 1) ∈ (numsDims wf).scatterDimsToOperandDims from List.mem_singleton.mpr rfl)]
  congr 2
  funext b; refine Fin.ext ?_
  match b with
  | ⟨0, _⟩ => rfl
  | ⟨1, _⟩ => rfl

theorem nums_window (wf : ScatterDims.WF ⟨1, ![G]⟩ ⟨2, ![N, 1]⟩ ⟨1, ![N]⟩ [] [0] [0] 1) (n : Fin N) :
    (numsDims wf).window (ix1 n) 0 = 0 := by
  unfold ScatterDims.window
  exact dif_neg (fun h => by simp [ScatterDims.sKept, Shape.kept] at h)

/-- An update whose index names no row is dropped. -/
theorem nums_miss (wf : ScatterDims.WF ⟨1, ![G]⟩ ⟨2, ![N, 1]⟩ ⟨1, ![N]⟩ [] [0] [0] 1) (n : Fin N) (h : (G : ℤ) ≤ (idx (ix2 n 0)).toInt) :
    (numsDims wf).resultIdx? (ix1 n) idx = none := by
  unfold ScatterDims.resultIdx?
  refine dif_neg fun hall => ?_
  have h0 : (numsDims wf).start (ix1 n) idx 0 + (numsDims wf).window (ix1 n) 0 < (G : ℤ) := (hall 0).2
  rw [nums_start, nums_window] at h0
  omega

theorem nums_lands (wf : ScatterDims.WF ⟨1, ![G]⟩ ⟨2, ![N, 1]⟩ ⟨1, ![N]⟩ [] [0] [0] 1) (n : Fin N) (g : Fin G)
    (h : (idx (ix2 n 0)).toInt = g.val) :
    (numsDims wf).resultIdx? (ix1 n) idx = some (ix1 g) := by
  have s0 : (numsDims wf).start (ix1 n) idx 0 = g.val := (nums_start idx wf n).trans h
  have w0 : (numsDims wf).window (ix1 n) 0 = 0 := nums_window wf n
  unfold ScatterDims.resultIdx?
  have hall : ∀ a : Fin 1, 0 ≤ (numsDims wf).start (ix1 n) idx a + (numsDims wf).window (ix1 n) a
      ∧ (numsDims wf).start (ix1 n) idx a + (numsDims wf).window (ix1 n) a < (⟨1, ![G]⟩ : Shape).size a := fun a => by
    match a with
    | ⟨0, _⟩ =>
      show 0 ≤ (numsDims wf).start (ix1 n) idx 0 + (numsDims wf).window (ix1 n) 0 ∧ (numsDims wf).start (ix1 n) idx 0 + (numsDims wf).window (ix1 n) 0 < (G : ℤ)
      rw [s0, w0]; have := g.isLt; omega
  rw [dif_pos hall]
  refine congrArg some (funext fun a => Fin.ext ?_)
  match a with
  | ⟨0, _⟩ =>
    show ((numsDims wf).start (ix1 n) idx 0 + (numsDims wf).window (ix1 n) 0).toNat = g.val
    rw [s0, w0]; omega

/-- A word that is not negative names its row, or none. -/
theorem rows_at (wf : ScatterDims.WF ⟨2, ![G, D]⟩ ⟨2, ![N, 1]⟩ ⟨2, ![N, D]⟩ [1] [0] [0] 1) (x : FVec Ideal (⟨2, ![G, D]⟩ : Shape) .f32)
    (u : FVec Ideal (⟨2, ![N, D]⟩ : Shape) .f32) (h : ∀ n : Fin N, (idx (ix2 n 0)).toNat < 2 ^ 31) (g : Fin G) (d : Fin D) :
    Host.scatterAdd (rowsDims wf) x idx u (ix2 g d)
      = x (ix2 g d) + ∑ n : Fin N, if (idx (ix2 n 0)).toNat = g.val then u (ix2 n d) else 0 := by
  show Ideal.hostScatterAdd (rowsDims wf) x idx u (ix2 g d) = _
  unfold Ideal.hostScatterAdd
  rw [Finset.sum_filter, sum_idx2]
  congr 1
  refine Finset.sum_congr rfl fun n _ => ?_
  have ti : (idx (ix2 n 0)).toInt = (idx (ix2 n 0)).toNat := BitVec.toInt_eq_toNat_of_lt (by have := h n; omega)
  have inj : ∀ e : Fin D, ((rowsDims wf).resultIdx? (ix2 n e) idx = some (ix2 g d)) ↔ ((idx (ix2 n 0)).toNat = g.val ∧ e = d) := fun e => by
    by_cases hG : (idx (ix2 n 0)).toNat < G
    · rw [rows_lands idx wf n e ⟨_, hG⟩ ti]
      constructor
      · intro q
        have q' := Option.some.inj q
        exact ⟨congrArg Fin.val (congrFun q' 0), Fin.ext (congrArg Fin.val (congrFun q' 1))⟩
      · rintro ⟨q, rfl⟩
        have : (⟨(idx (ix2 n 0)).toNat, hG⟩ : Fin G) = g := Fin.ext q
        rw [this]
    · rw [rows_miss idx wf n e (by rw [ti]; omega)]
      constructor
      · intro q; exact absurd q (by simp)
      · rintro ⟨q, _⟩; have := g.isLt; omega
  simp only [inj]
  by_cases q : (idx (ix2 n 0)).toNat = g.val
  · rw [if_pos q, Finset.sum_eq_single d]
    · exact if_pos ⟨q, rfl⟩
    · intro e _ ne; exact if_neg fun q' => ne q'.2
    · intro ne; exact absurd (Finset.mem_univ d) ne
  · rw [if_neg q]
    exact Finset.sum_eq_zero fun e _ => if_neg fun q' => q q'.1

theorem nums_at (wf : ScatterDims.WF ⟨1, ![G]⟩ ⟨2, ![N, 1]⟩ ⟨1, ![N]⟩ [] [0] [0] 1) (x : FVec Ideal (⟨1, ![G]⟩ : Shape) .f32)
    (u : FVec Ideal (⟨1, ![N]⟩ : Shape) .f32) (h : ∀ n : Fin N, (idx (ix2 n 0)).toNat < 2 ^ 31) (g : Fin G) :
    Host.scatterAdd (numsDims wf) x idx u (ix1 g)
      = x (ix1 g) + ∑ n : Fin N, if (idx (ix2 n 0)).toNat = g.val then u (ix1 n) else 0 := by
  show Ideal.hostScatterAdd (numsDims wf) x idx u (ix1 g) = _
  unfold Ideal.hostScatterAdd
  rw [Finset.sum_filter, sum_idx1]
  congr 1
  refine Finset.sum_congr rfl fun n _ => ?_
  have ti : (idx (ix2 n 0)).toInt = (idx (ix2 n 0)).toNat := BitVec.toInt_eq_toNat_of_lt (by have := h n; omega)
  have inj : ((numsDims wf).resultIdx? (ix1 n) idx = some (ix1 g)) ↔ ((idx (ix2 n 0)).toNat = g.val) := by
    by_cases hG : (idx (ix2 n 0)).toNat < G
    · rw [nums_lands idx wf n ⟨_, hG⟩ ti]
      constructor
      · intro q
        exact congrArg Fin.val (congrFun (Option.some.inj q) 0)
      · intro q
        have : (⟨(idx (ix2 n 0)).toNat, hG⟩ : Fin G) = g := Fin.ext q
        rw [this]
    · rw [nums_miss idx wf n (by rw [ti]; omega)]
      constructor
      · intro q; exact absurd q (by simp)
      · intro q; have := g.isLt; omega
  simp only [inj]

end Cert.Scatter
end
-- ==== Proof.RefValue.lean ====
module
public import proofs.«01_k».proof.Proof.Spec
public import proofs.«01_k».proof.Proof.Scatter
public import proofs.«01_k».proof.Proof.Gen.ReferenceIdeal.Run
public import Idealize.ShloMosaic.Lib.Routing.Ops
public import Idealize.ShloMosaic.Lib.Routing.OpsPair
public import Idealize.ShloMosaic.Lib.IdealHost

/-! The reference's composed term, stage by stage, read at an entry. -/

@[expose] public section
set_option maxRecDepth 16384
noncomputable section
namespace Cert.ReferenceIdeal.Value
open Cert.ReferenceIdeal Cert.ReferenceIdeal.Gen Idealize.ShloMosaic Idealize.ShloMosaic.Tactic
open Cert.Spec (Ids Feats Mat Bias)

/-- The ids as one column. -/
def col (B : Ids) : IVec S100000x1 32 := broadcastInDim S100000x1 ![0] bcast_S100000_S100000x1_0 B

/-- Rows summed per graph. -/
def rowsT (B : Ids) (u : Feats) : Mat :=
  Host.scatterAdd scatter_S512x512_S100000x1_S100000x512_1_0_0_1 (broadcastInDim S512x512 ![] bcast_S_S512x512 (constant (F := Ideal) S_ .f32 0x00000000#32)) (col B) u

/-- The counts. -/
def cntT (B : Ids) : FVec Ideal S512 .f32 :=
  Host.scatterAdd scatter_S512_S100000x1_S100000_n_0_0_1 (broadcastInDim S512 ![] bcast_S_S512 (constant (F := Ideal) S_ .f32 0x00000000#32)) (col B)
    (broadcastInDim S100000 ![] bcast_S_S100000 (constant (F := Ideal) S_ .f32 0x3F800000#32))

/-- The context from sums and counts. -/
def ctxT (S : Mat) (C : FVec Ideal S512 .f32) (W : Mat) (b : Bias) : Mat :=
  Host.tanh (addf (Host.dotGeneral dot_S512x512_S512x512_S512x512_1_0_0_1_n_n none
    (Host.divf S (broadcastInDim S512x512 ![0, 1] bcast_S512x1_S512x512_0_1 (broadcastInDim S512x1 ![0] bcast_S512_S512x1_0
      (maximumf C (broadcastInDim S512 ![] bcast_S_S512 (constant (F := Ideal) S_ .f32 0x3F800000#32))))))
    (transpose S512x512 [1, 0] W transposes_S512x512_S512x512_1_0))
    (broadcastInDim S512x512 ![0, 1] bcast_S1x512_S512x512_0_1 (broadcastInDim S1x512 ![1] bcast_S512_S1x512_1 b)))

/-- The ids the context is read at. -/
def pickT (B : Ids) : IVec S100000x1 32 :=
  broadcastInDim S100000x1 ![0] bcast_S100000_S100000x1_0 (select (cmpi .slt B (broadcastInDim S100000 ![] bcast_S_S100000 (constantI S_ 32 0#32)))
    (addi B (broadcastInDim S100000 ![] bcast_S_S100000 (constantI S_ 32 512#32))) B)

/-- Each node's context. -/
def gatherT (K : Mat) (I : IVec S100000x1 32) : Feats := Host.gather gather_S512x512_S100000x1_S100000x512_1_0_n_n_0_1_1512 K I

/-- The scores. -/
def scoreT (X G : Feats) : FVec Ideal S100000 .f32 :=
  Host.divf (broadcastInDim S100000 ![] bcast_S_S100000 (constant (F := Ideal) S_ .f32 0x3F800000#32))
    (addf (broadcastInDim S100000 ![] bcast_S_S100000 (constant (F := Ideal) S_ .f32 0x3F800000#32))
      (Host.exp (Host.negf (Host.reduceAdd (mulf X G) (constant (F := Ideal) S_ .f32 0x00000000#32) reducesTo_S100000x512_S100000_d1 h_S_))))

/-- The features scaled by their scores. -/
def scaleT (s : FVec Ideal S100000 .f32) (X : Feats) : Feats :=
  mulf (broadcastInDim S100000x512 ![0, 1] bcast_S100000x1_S100000x512_0_1 (broadcastInDim S100000x1 ![0] bcast_S100000_S100000x1_0 s)) X

/-- The reference's result. -/
def outT (B : Ids) (X : Feats) (W : Mat) (b : Bias) : Mat :=
  rowsT B (scaleT (scoreT X (gatherT (ctxT (rowsT B X) (cntT B) W b) (pickT B))) X)

theorem col_at (B : Ids) (n : Fin 100000) : col B (ix2 n 0) = B (ix1 n) := by
  unfold col
  pointwise

theorem zeros_at (g d : Fin 512) : (broadcastInDim S512x512 ![] bcast_S_S512x512 (constant (F := Ideal) S_ .f32 0x00000000#32)) (ix2 g d) = (0 : EReal) := by
  pointwise

theorem rowsT_at (B : Ids) (hB : ∀ n : Fin 100000, (B (ix1 n)).toNat < 2 ^ 31) (u : Feats) (g d : Fin 512) :
    rowsT B u (ix2 g d) = Spec.seg B g.val fun n => u (ix2 n d) := by
  unfold rowsT
  refine (Scatter.rows_at (col B) scatter_S512x512_S100000x1_S100000x512_1_0_0_1_wf _ u (fun n => by rw [col_at]; exact hB n) g d).trans ?_
  rw [zeros_at, zero_add]
  unfold Spec.seg Spec.inSeg
  refine Finset.sum_congr rfl fun n _ => ?_
  rw [col_at]

theorem zeros1_at (g : Fin 512) : (broadcastInDim S512 ![] bcast_S_S512 (constant (F := Ideal) S_ .f32 0x00000000#32)) (ix1 g) = (0 : EReal) := by
  pointwise

theorem ones_at (n : Fin 100000) : (broadcastInDim S100000 ![] bcast_S_S100000 (constant (F := Ideal) S_ .f32 0x3F800000#32)) (ix1 n) = (1 : EReal) := by
  pointwise

theorem cntT_at (B : Ids) (hB : ∀ n : Fin 100000, (B (ix1 n)).toNat < 2 ^ 31) (g : Fin 512) : cntT B (ix1 g) = Spec.cnt B g.val := by
  unfold cntT
  refine (Scatter.nums_at (col B) scatter_S512_S100000x1_S100000_n_0_0_1_wf _ _ (fun n => by rw [col_at]; exact hB n) g).trans ?_
  rw [zeros1_at, zero_add]
  unfold Spec.cnt Spec.seg Spec.inSeg
  refine Finset.sum_congr rfl fun n _ => ?_
  rw [col_at, ones_at]

theorem ctxT_at (S : Mat) (C : FVec Ideal S512 .f32) (W : Mat) (b : Bias) (g d : Fin 512) :
    ctxT S C W b (ix2 g d) = Ideal.tanh (∑ e : Fin 512, Ideal.div (S (ix2 g e)) (max (C (ix1 g)) 1) * W (ix2 d e) + b (ix1 d)) := by
  unfold ctxT
  pointwise

theorem pickT_at (B : Ids) (hB : ∀ n : Fin 100000, (B (ix1 n)).toNat < 2 ^ 31) (n : Fin 100000) : pickT B (ix2 n 0) = B (ix1 n) := by
  have e : pickT B (ix2 n 0) = Scalar.select (IntOp.cmpi .slt (B (ix1 n)) 0#32) (B (ix1 n) + 512#32) (B (ix1 n)) := by
    unfold pickT
    pointwise
    rfl
  rw [e]
  exact Routing.wrap_of_lt _ _ (by have := hB n; omega)

theorem gatherT_at (K : Mat) (B : Ids) (hB : ∀ n : Fin 100000, (B (ix1 n)).toNat < 2 ^ 31) (n : Fin 100000) (d : Fin 512) (g : Fin 512) (hg : (B (ix1 n)).toNat = g.val) :
    gatherT K (pickT B) (ix2 n d) = K (ix2 g d) := by
  unfold gatherT
  refine Routing.gather_row _ rfl rfl rfl rfl rfl K (pickT B) n d g ?_ (by omega)
  refine (pickT_at B hB n).trans ?_
  rw [← hg]
  simp

theorem scoreT_at (X G : Feats) (n : Fin 100000) : scoreT X G (ix1 n) = Ideal.logistic (∑ e : Fin 512, X (ix2 n e) * G (ix2 n e)) := by
  unfold scoreT
  pointwise
  rfl

theorem scaleT_at (s : FVec Ideal S100000 .f32) (X : Feats) (n : Fin 100000) (d : Fin 512) : scaleT s X (ix2 n d) = s (ix1 n) * X (ix2 n d) := by
  unfold scaleT
  pointwise

theorem outT_at (B : Ids) (hB : ∀ n : Fin 100000, (B (ix1 n)).toNat < 2 ^ 31) (X : Feats) (W : Mat) (b : Bias) (g d : Fin 512) :
    outT B X W b (ix2 g d) = Spec.out B X W b g.val d := by
  unfold outT
  rw [rowsT_at B hB]
  unfold Spec.out
  unfold Spec.seg Spec.inSeg
  refine Finset.sum_congr rfl fun n _ => ?_
  by_cases q : (B (ix1 n)).toNat = g.val
  swap
  · rw [if_neg q, if_neg q]
  rw [if_pos q, if_pos q]
  show scaleT _ X (ix2 n d) = _
  rw [scaleT_at, scoreT_at]
  unfold Spec.score
  refine congrArg (fun s => Ideal.logistic s * X (ix2 n d)) (Finset.sum_congr rfl fun e _ => ?_)
  rw [gatherT_at _ B hB n e g q, ctxT_at, q]
  unfold Spec.ctx
  refine congrArg (fun s => X (ix2 n e) * Ideal.tanh (s + b (ix1 e))) (Finset.sum_congr rfl fun k _ => ?_)
  rw [rowsT_at B hB, cntT_at B hB, ← Spec.mul_div_one]
  rfl

end Cert.ReferenceIdeal.Value
end
-- ==== Proof.Equal.lean ====
module
public import proofs.«01_k».proof.Proof.Value
public import proofs.«01_k».proof.Proof.RefValue
public import proofs.«01_k».proof.Proof.Frames

/-! The kernel and the reference end with the same result. -/

@[expose] public section
set_option maxRecDepth 16384
noncomputable section
namespace Cert.Equal
open Idealize.ShloMosaic Idealize.ShloMosaic.TcCoe Idealize.SL.Sem
open Cert.KernelIdeal.Seg (Sorted sorted_of_pre low_of_ids stAt argX argB argW argb)

attribute [local instance] Cert.KernelIdeal.Gen.facts Cert.ReferenceIdeal.Gen.facts Cert.Pre_batch_sorted.Gen.facts

/-- The kernel's last output block is the reference's term. -/
theorem value (m : (ℓ : Loc Cert.KernelIdeal.nD Cert.KernelIdeal.τ Cert.KernelIdeal.sig) → Buf (Elt Ideal) ℓ) (c : Dev Cert.KernelIdeal.nD)
    (h : Sorted (argB m c)) :
    Cert.ReferenceIdeal.Value.outT (argB m c) (argX m c) (argW m c) (argb m c) = (stAt m c 40).o := by
  funext i
  rw [eq_ix2 i]
  exact (Cert.ReferenceIdeal.Value.outT_at _ h.lt _ _ _ _ _).trans (Cert.KernelIdeal.Seg.result_at m c h _ _).symm

theorem algebraic : Cert.algebraic_KernelIdeal_ReferenceIdeal_pre_batch_sorted := by
  intro m g m' g' hpre hagree
  have hs : ∀ c : Dev Cert.KernelIdeal.nD, Sorted (argB m c) := fun c => sorted_of_pre _ _ _ _ (hpre c).1 (hpre c).2
  have hl := low_of_ids m fun c => (hs c).lt
  refine ⟨fun c => (stAt m c 40).o, ?_, ?_⟩
  · exact (θ_run Cert.KernelIdeal.defs _ _).mono (fun r h c => ⟨h.1 c, h.2.1 c⟩)
      (θ_run_and (Cert.KernelIdeal.Seg.result (F := Ideal) m g hl) (Cert.KernelIdeal.Seg.unchanged (F := Ideal) m g hl))
  · refine (θ_run Cert.ReferenceIdeal.defs _ _).mono (fun r h c => ⟨(h c).1.trans ?_, (h c).2⟩)
      (Cert.ReferenceIdeal.Value.run (F := Ideal) m' g')
    obtain ⟨e0, e1, e2, e3⟩ := hagree c
    rw [e0, e1, e2, e3]
    exact value m c (hs c)

end Cert.Equal
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_batch_nonneg
public import proofs.«01_k».proof.Proof.Gen.Pre_batch_sorted
public import proofs.«01_k».proof.Proof.Frames
public import proofs.«01_k».proof.Proof.Equal

@[expose] public section

noncomputable section

namespace Cert.Proof

theorem claim : Cert.Claim := ⟨Cert.Kernel.Gen.facts, Cert.KernelIdeal.Gen.facts, Cert.ReferenceIdeal.Gen.facts, Cert.Pre_batch_nonneg.Gen.facts, Cert.Pre_batch_sorted.Gen.facts,
  Cert.Frames.kernel, Cert.Frames.kernelIdeal, Cert.Frames.kernelIdeal_sorted, Cert.Frames.referenceIdeal,
  fun m g _ => Cert.Frames.referenceIdeal m g trivial, trivial, Cert.Equal.algebraic⟩

end Cert.Proof

end
